-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)) →
    ∃ (v0 : (c : Dev Cert.Kernel3Ideal.nD) → Buf (Elt Ideal) ((c.tc : Thread Cert.Kernel3Ideal.nD Cert.Kernel3Ideal.τ).loc Cert.Kernel3Ideal.main_v106_2)) (v1 : (c : Dev Cert.Kernel3Ideal.nD) → Buf (Elt Ideal) ((c.tc : Thread Cert.Kernel3Ideal.nD Cert.Kernel3Ideal.τ).loc Cert.Kernel3Ideal.main_v106_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v106_2) = v0 c
          ∧ r.2.mem ((c.tc : Thread Cert.Kernel3Ideal.nD Cert.Kernel3Ideal.τ).loc Cert.Kernel3Ideal.main_v106_5) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v77) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S16x12x2304x128 : Shape := ⟨4, ![16, 12, 2304, 128]⟩
abbrev S16x768x2304 : Shape := ⟨3, ![16, 768, 2304]⟩
abbrev S_ : Shape := ⟨0, ![]⟩

class Facts : Prop where
  bitsLt_bf16_f32 : FTy.bits .bf16 < FTy.bits .f32
  bcast_S_S16x12x2304x128 : S_.BroadcastsInDim S16x12x2304x128 (![] : Fin 0 → Fin S16x12x2304x128.rank)
  reducesTo_S16x12x2304x128_S_d0_1_2_3 : S16x12x2304x128.ReducesTo [0, 1, 2, 3] S_
  h_S_ : 0 < S_.numel

variable [Facts]

def fn {F : FTy → Type} [FloatOps F] (main_arg0 : FVec F S16x12x2304x128 .bf16) (main_arg1 : FVec F S16x12x2304x128 .bf16) (main_arg2 : FVec F S16x768x2304 .bf16) : IVec S_ 1 :=
  let main_v0 : FVec F S16x12x2304x128 .f32 := (extf .f32 · bitsLt_bf16_f32) main_arg0
  let main_v1 : FVec F S16x12x2304x128 .f32 := Host.absf main_v0
  let main_cst : FVec F S_ .f32 := constant S_ .f32 0x7F800000#32
  let main_v2 : FVec F S16x12x2304x128 .f32 := broadcastInDim S16x12x2304x128 ![] bcast_S_S16x12x2304x128 main_cst
  let main_v3 : IVec S16x12x2304x128 1 := cmpf .olt main_v1 main_v2
  let main_c : IVec S_ 1 := constantI S_ 1 1#1
  let main_v4 : IVec S_ 1 := (fun x v => Host.reduce IntOp.andi x v reducesTo_S16x12x2304x128_S_d0_1_2_3 h_S_) main_v3 main_c
  let main_v5 : FVec F S16x12x2304x128 .f32 := (extf .f32 · bitsLt_bf16_f32) main_arg1
  let main_v6 : FVec F S16x12x2304x128 .f32 := Host.absf main_v5
  let main_cst_0 : FVec F S_ .f32 := constant S_ .f32 0x7F800000#32
  let main_v7 : FVec F S16x12x2304x128 .f32 := broadcastInDim S16x12x2304x128 ![] bcast_S_S16x12x2304x128 main_cst_0
  let main_v8 : IVec S16x12x2304x128 1 := cmpf .olt main_v6 main_v7
  let main_c_1 : IVec S_ 1 := constantI S_ 1 1#1
  let main_v9 : IVec S_ 1 := (fun x v => Host.reduce IntOp.andi x v reducesTo_S16x12x2304x128_S_d0_1_2_3 h_S_) main_v8 main_c_1
  let main_v10 : IVec S_ 1 := andi main_v4 main_v9
  main_v10
-- ==== Kernel.lean ====
abbrev S16x12x2304x128 : Shape := ⟨4, ![16, 12, 2304, 128]⟩
abbrev S16x768x2304 : Shape := ⟨3, ![16, 768, 2304]⟩
abbrev S16x8x768x256 : Shape := ⟨4, ![16, 8, 768, 256]⟩
abbrev S1x12x1024x128 : Shape := ⟨4, ![1, 12, 1024, 128]⟩
abbrev S1x12x2304x128 : Shape := ⟨4, ![1, 12, 2304, 128]⟩
abbrev S1x768x2304 : Shape := ⟨3, ![1, 768, 2304]⟩
abbrev S1x4x768x256 : Shape := ⟨4, ![1, 4, 768, 256]⟩
abbrev S2304x256 : Shape := ⟨2, ![2304, 256]⟩
abbrev S16x2304 : Shape := ⟨2, ![16, 2304]⟩
abbrev S1x1x256x128 : Shape := ⟨4, ![1, 1, 256, 128]⟩
abbrev S256x128 : Shape := ⟨2, ![256, 128]⟩
abbrev S1x1x1152x128 : Shape := ⟨4, ![1, 1, 1152, 128]⟩
abbrev S1152x128 : Shape := ⟨2, ![1152, 128]⟩
abbrev S1152x256 : Shape := ⟨2, ![1152, 256]⟩
abbrev S256 : Shape := ⟨1, ![256]⟩
abbrev S1x256 : Shape := ⟨2, ![1, 256]⟩
abbrev S1x64x2304 : Shape := ⟨3, ![1, 64, 2304]⟩
abbrev S64x2304 : Shape := ⟨2, ![64, 2304]⟩
abbrev S80x2304 : Shape := ⟨2, ![80, 2304]⟩
abbrev S80x256 : Shape := ⟨2, ![80, 256]⟩
abbrev S64x256 : Shape := ⟨2, ![64, 256]⟩
abbrev S1x1x64x256 : Shape := ⟨4, ![1, 1, 64, 256]⟩

abbrev nBuf : Space → Nat
  | .hbm => 4
  | .vmem => 12
  | .smem => 0
  | _ => 0

abbrev bufTy : (tb : Table) → Fin (tcTables nBuf tb) → BufTy
  | .hbm, ⟨0, _⟩ => ⟨S16x12x2304x128, .bf16⟩
  | .hbm, ⟨1, _⟩ => ⟨S16x12x2304x128, .bf16⟩
  | .hbm, ⟨2, _⟩ => ⟨S16x768x2304, .bf16⟩
  | .hbm, ⟨3, _⟩ => ⟨S16x8x768x256, .bf16⟩
  | .local _ .vmem, ⟨0, _⟩ => ⟨S1x12x1024x128, .bf16⟩
  | .local _ .vmem, ⟨1, _⟩ => ⟨S1x12x1024x128, .bf16⟩
  | .local _ .vmem, ⟨2, _⟩ => ⟨S1x12x2304x128, .bf16⟩
  | .local _ .vmem, ⟨3, _⟩ => ⟨S1x12x2304x128, .bf16⟩
  | .local _ .vmem, ⟨4, _⟩ => ⟨S1x768x2304, .bf16⟩
  | .local _ .vmem, ⟨5, _⟩ => ⟨S1x768x2304, .bf16⟩
  | .local _ .vmem, ⟨6, _⟩ => ⟨S1x4x768x256, .bf16⟩
  | .local _ .vmem, ⟨7, _⟩ => ⟨S1x4x768x256, .bf16⟩
  | .local _ .vmem, ⟨8, _⟩ => ⟨S2304x256, .f32⟩
  | .local _ .vmem, ⟨9, _⟩ => ⟨S2304x256, .f32⟩
  | .local _ .vmem, ⟨10, _⟩ => ⟨S2304x256, .bf16⟩
  | .local _ .vmem, ⟨11, _⟩ => ⟨S2304x256, .bf16⟩
  | _, _ => ⟨S16x12x2304x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_mult1 : BitVec 32 :=
  let c0_i32 : BitVec 32 := 0#32
  c0_i32
def k0_mult2 : BitVec 32 :=
  let c0_i32_17 : BitVec 32 := 0#32
  c0_i32_17
@[reducible] def k0_t1_loop : Scf.Loop 32 :=
  let c0_i32_44 : BitVec 32 := 0#32
  let c23_i32 : BitVec 32 := 23#32
  let v59 : BitVec 32 := Scalar.addi c0_i32_44 c23_i32
  let c1_i32 : BitVec 32 := 1#32
  ⟨c0_i32_44, v59, c1_i32⟩
def k0_mult3 (k0_t1 : Fin k0_t1_loop.trips) : BitVec 32 :=
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_70 : BitVec 32 := 1#32
  let v111 : BitVec 32 := Scalar.subi v110 c1_i32_70
  let c12_i32_77 : BitVec 32 := 12#32
  let c0_i32_78 : BitVec 32 := 0#32
  let v129 : BitVec 1 := Scalar.cmpi .eq c12_i32_77 c0_i32_78
  let c1_i32_79 : BitVec 32 := 1#32
  let v130 : BitVec 32 := Scalar.select v129 c1_i32_79 c12_i32_77
  let v131 : BitVec 32 := Scalar.remsi v111 v130
  let c0_i32_81 : BitVec 32 := 0#32
  let v133 : BitVec 1 := Scalar.cmpi .slt v131 c0_i32_81
  let c0_i32_82 : BitVec 32 := 0#32
  let v134 : BitVec 1 := Scalar.cmpi .slt v130 c0_i32_82
  let v135 : BitVec 1 := Scalar.xori v133 v134
  let c0_i32_80 : BitVec 32 := 0#32
  let v132 : BitVec 1 := Scalar.cmpi .ne v131 c0_i32_80
  let v136 : BitVec 1 := Scalar.andi v135 v132
  let v137 : BitVec 32 := Scalar.addi v131 v130
  let v138 : BitVec 32 := Scalar.select v136 v137 v131
  let c64_i32 : BitVec 32 := 64#32
  let v139 : BitVec 32 := Scalar.muli v138 c64_i32
  v139
def k0_off1 (k0_t1 : Fin k0_t1_loop.trips) : Fin 3 → Nat :=
  let c0_83 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_70 : BitVec 32 := 1#32
  let v111 : BitVec 32 := Scalar.subi v110 c1_i32_70
  let c12_i32_77 : BitVec 32 := 12#32
  let c0_i32_78 : BitVec 32 := 0#32
  let v129 : BitVec 1 := Scalar.cmpi .eq c12_i32_77 c0_i32_78
  let c1_i32_79 : BitVec 32 := 1#32
  let v130 : BitVec 32 := Scalar.select v129 c1_i32_79 c12_i32_77
  let v131 : BitVec 32 := Scalar.remsi v111 v130
  let c0_i32_81 : BitVec 32 := 0#32
  let v133 : BitVec 1 := Scalar.cmpi .slt v131 c0_i32_81
  let c0_i32_82 : BitVec 32 := 0#32
  let v134 : BitVec 1 := Scalar.cmpi .slt v130 c0_i32_82
  let v135 : BitVec 1 := Scalar.xori v133 v134
  let c0_i32_80 : BitVec 32 := 0#32
  let v132 : BitVec 1 := Scalar.cmpi .ne v131 c0_i32_80
  let v136 : BitVec 1 := Scalar.andi v135 v132
  let v137 : BitVec 32 := Scalar.addi v131 v130
  let v138 : BitVec 32 := Scalar.select v136 v137 v131
  let c64_i32 : BitVec 32 := 64#32
  let v139 : BitVec 32 := Scalar.muli v138 c64_i32
  let v140 : BitVec 32 := v139
  let v141 : Index := Scalar.indexCast v140
  let c0_84 : Index := 0#32
  ![0, v141.toNat, 0]
def k0_off2 (k0_t1 : Fin k0_t1_loop.trips) : Fin 4 → Nat :=
  let c0_88 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_70 : BitVec 32 := 1#32
  let v111 : BitVec 32 := Scalar.subi v110 c1_i32_70
  let c0_i32_71 : BitVec 32 := 0#32
  let v113 : BitVec 1 := Scalar.cmpi .sgt v111 c0_i32_71
  let v114 : BitVec 32 := Scalar.extui v113
  let c0_i32_72 : BitVec 32 := 0#32
  let v115 : BitVec 1 := Scalar.cmpi .slt v111 c0_i32_72
  let v116 : BitVec 32 := Scalar.extui v115
  let v117 : BitVec 32 := Scalar.subi v114 v116
  let c12_i32 : BitVec 32 := 12#32
  let c0_i32_73 : BitVec 32 := 0#32
  let v118 : BitVec 1 := Scalar.cmpi .sgt c12_i32 c0_i32_73
  let v119 : BitVec 32 := Scalar.extui v118
  let c0_i32_74 : BitVec 32 := 0#32
  let v120 : BitVec 1 := Scalar.cmpi .slt c12_i32 c0_i32_74
  let v121 : BitVec 32 := Scalar.extui v120
  let v122 : BitVec 32 := Scalar.subi v119 v121
  let v123 : BitVec 1 := Scalar.cmpi .ne v117 v122
  let v124 : BitVec 32 := Scalar.remsi v111 c12_i32
  let c0_i32_75 : BitVec 32 := 0#32
  let v125 : BitVec 1 := Scalar.cmpi .ne v124 c0_i32_75
  let v126 : BitVec 1 := Scalar.andi v123 v125
  let v112 : BitVec 32 := Scalar.divsi v111 c12_i32
  let c1_i32_76 : BitVec 32 := 1#32
  let v127 : BitVec 32 := Scalar.subi v112 c1_i32_76
  let v128 : BitVec 32 := Scalar.select v126 v127 v112
  let v152 : Index := Scalar.indexCast v128
  let c12_i32_77 : BitVec 32 := 12#32
  let c0_i32_78 : BitVec 32 := 0#32
  let v129 : BitVec 1 := Scalar.cmpi .eq c12_i32_77 c0_i32_78
  let c1_i32_79 : BitVec 32 := 1#32
  let v130 : BitVec 32 := Scalar.select v129 c1_i32_79 c12_i32_77
  let v131 : BitVec 32 := Scalar.remsi v111 v130
  let c0_i32_81 : BitVec 32 := 0#32
  let v133 : BitVec 1 := Scalar.cmpi .slt v131 c0_i32_81
  let c0_i32_82 : BitVec 32 := 0#32
  let v134 : BitVec 1 := Scalar.cmpi .slt v130 c0_i32_82
  let v135 : BitVec 1 := Scalar.xori v133 v134
  let c0_i32_80 : BitVec 32 := 0#32
  let v132 : BitVec 1 := Scalar.cmpi .ne v131 c0_i32_80
  let v136 : BitVec 1 := Scalar.andi v135 v132
  let v137 : BitVec 32 := Scalar.addi v131 v130
  let v138 : BitVec 32 := Scalar.select v136 v137 v131
  let c64_i32 : BitVec 32 := 64#32
  let v139 : BitVec 32 := Scalar.muli v138 c64_i32
  let v140 : BitVec 32 := v139
  let v153 : Index := Scalar.indexCast v140
  let c0_89 : Index := 0#32
  ![0, v152.toNat, v153.toNat, 0]
def k0_mult4 (k0_t1 : Fin k0_t1_loop.trips) : BitVec 32 :=
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_90 : BitVec 32 := 1#32
  let v157 : BitVec 32 := Scalar.addi v110 c1_i32_90
  let c0_i32_92 : BitVec 32 := 0#32
  let v159 : BitVec 1 := Scalar.cmpi .sgt v157 c0_i32_92
  let v160 : BitVec 32 := Scalar.extui v159
  let c0_i32_93 : BitVec 32 := 0#32
  let v161 : BitVec 1 := Scalar.cmpi .slt v157 c0_i32_93
  let v162 : BitVec 32 := Scalar.extui v161
  let v163 : BitVec 32 := Scalar.subi v160 v162
  let c12_i32_91 : BitVec 32 := 12#32
  let c0_i32_94 : BitVec 32 := 0#32
  let v164 : BitVec 1 := Scalar.cmpi .sgt c12_i32_91 c0_i32_94
  let v165 : BitVec 32 := Scalar.extui v164
  let c0_i32_95 : BitVec 32 := 0#32
  let v166 : BitVec 1 := Scalar.cmpi .slt c12_i32_91 c0_i32_95
  let v167 : BitVec 32 := Scalar.extui v166
  let v168 : BitVec 32 := Scalar.subi v165 v167
  let v169 : BitVec 1 := Scalar.cmpi .ne v163 v168
  let v170 : BitVec 32 := Scalar.remsi v157 c12_i32_91
  let c0_i32_96 : BitVec 32 := 0#32
  let v171 : BitVec 1 := Scalar.cmpi .ne v170 c0_i32_96
  let v172 : BitVec 1 := Scalar.andi v169 v171
  let v158 : BitVec 32 := Scalar.divsi v157 c12_i32_91
  let c1_i32_97 : BitVec 32 := 1#32
  let v173 : BitVec 32 := Scalar.subi v158 c1_i32_97
  let v174 : BitVec 32 := Scalar.select v172 v173 v158
  let c256_i32 : BitVec 32 := 256#32
  let v185 : BitVec 32 := Scalar.muli v174 c256_i32
  v185
def k0_off3 (k0_t1 : Fin k0_t1_loop.trips) : Fin 4 → Nat :=
  let c0_104 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_90 : BitVec 32 := 1#32
  let v157 : BitVec 32 := Scalar.addi v110 c1_i32_90
  let c12_i32_98 : BitVec 32 := 12#32
  let c0_i32_99 : BitVec 32 := 0#32
  let v175 : BitVec 1 := Scalar.cmpi .eq c12_i32_98 c0_i32_99
  let c1_i32_100 : BitVec 32 := 1#32
  let v176 : BitVec 32 := Scalar.select v175 c1_i32_100 c12_i32_98
  let v177 : BitVec 32 := Scalar.remsi v157 v176
  let c0_i32_102 : BitVec 32 := 0#32
  let v179 : BitVec 1 := Scalar.cmpi .slt v177 c0_i32_102
  let c0_i32_103 : BitVec 32 := 0#32
  let v180 : BitVec 1 := Scalar.cmpi .slt v176 c0_i32_103
  let v181 : BitVec 1 := Scalar.xori v179 v180
  let c0_i32_101 : BitVec 32 := 0#32
  let v178 : BitVec 1 := Scalar.cmpi .ne v177 c0_i32_101
  let v182 : BitVec 1 := Scalar.andi v181 v178
  let v183 : BitVec 32 := Scalar.addi v177 v176
  let v184 : BitVec 32 := Scalar.select v182 v183 v177
  let v187 : Index := Scalar.indexCast v184
  let c0_i32_92 : BitVec 32 := 0#32
  let v159 : BitVec 1 := Scalar.cmpi .sgt v157 c0_i32_92
  let v160 : BitVec 32 := Scalar.extui v159
  let c0_i32_93 : BitVec 32 := 0#32
  let v161 : BitVec 1 := Scalar.cmpi .slt v157 c0_i32_93
  let v162 : BitVec 32 := Scalar.extui v161
  let v163 : BitVec 32 := Scalar.subi v160 v162
  let c12_i32_91 : BitVec 32 := 12#32
  let c0_i32_94 : BitVec 32 := 0#32
  let v164 : BitVec 1 := Scalar.cmpi .sgt c12_i32_91 c0_i32_94
  let v165 : BitVec 32 := Scalar.extui v164
  let c0_i32_95 : BitVec 32 := 0#32
  let v166 : BitVec 1 := Scalar.cmpi .slt c12_i32_91 c0_i32_95
  let v167 : BitVec 32 := Scalar.extui v166
  let v168 : BitVec 32 := Scalar.subi v165 v167
  let v169 : BitVec 1 := Scalar.cmpi .ne v163 v168
  let v170 : BitVec 32 := Scalar.remsi v157 c12_i32_91
  let c0_i32_96 : BitVec 32 := 0#32
  let v171 : BitVec 1 := Scalar.cmpi .ne v170 c0_i32_96
  let v172 : BitVec 1 := Scalar.andi v169 v171
  let v158 : BitVec 32 := Scalar.divsi v157 c12_i32_91
  let c1_i32_97 : BitVec 32 := 1#32
  let v173 : BitVec 32 := Scalar.subi v158 c1_i32_97
  let v174 : BitVec 32 := Scalar.select v172 v173 v158
  let c256_i32 : BitVec 32 := 256#32
  let v185 : BitVec 32 := Scalar.muli v174 c256_i32
  let v186 : BitVec 32 := v185
  let v188 : Index := Scalar.indexCast v186
  let c0_105 : Index := 0#32
  ![0, v187.toNat, v188.toNat, 0]
def k0_off4 (k0_t1 : Fin k0_t1_loop.trips) : Fin 4 → Nat :=
  let c0_106 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_90 : BitVec 32 := 1#32
  let v157 : BitVec 32 := Scalar.addi v110 c1_i32_90
  let c12_i32_98 : BitVec 32 := 12#32
  let c0_i32_99 : BitVec 32 := 0#32
  let v175 : BitVec 1 := Scalar.cmpi .eq c12_i32_98 c0_i32_99
  let c1_i32_100 : BitVec 32 := 1#32
  let v176 : BitVec 32 := Scalar.select v175 c1_i32_100 c12_i32_98
  let v177 : BitVec 32 := Scalar.remsi v157 v176
  let c0_i32_102 : BitVec 32 := 0#32
  let v179 : BitVec 1 := Scalar.cmpi .slt v177 c0_i32_102
  let c0_i32_103 : BitVec 32 := 0#32
  let v180 : BitVec 1 := Scalar.cmpi .slt v176 c0_i32_103
  let v181 : BitVec 1 := Scalar.xori v179 v180
  let c0_i32_101 : BitVec 32 := 0#32
  let v178 : BitVec 1 := Scalar.cmpi .ne v177 c0_i32_101
  let v182 : BitVec 1 := Scalar.andi v181 v178
  let v183 : BitVec 32 := Scalar.addi v177 v176
  let v184 : BitVec 32 := Scalar.select v182 v183 v177
  let v191 : Index := Scalar.indexCast v184
  let c0_107 : Index := 0#32
  let c0_108 : Index := 0#32
  ![0, v191.toNat, 0, 0]
def k0_off5 (k0_t1 : Fin k0_t1_loop.trips) : Fin 4 → Nat :=
  let c0_113 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_90 : BitVec 32 := 1#32
  let v157 : BitVec 32 := Scalar.addi v110 c1_i32_90
  let c12_i32_98 : BitVec 32 := 12#32
  let c0_i32_99 : BitVec 32 := 0#32
  let v175 : BitVec 1 := Scalar.cmpi .eq c12_i32_98 c0_i32_99
  let c1_i32_100 : BitVec 32 := 1#32
  let v176 : BitVec 32 := Scalar.select v175 c1_i32_100 c12_i32_98
  let v177 : BitVec 32 := Scalar.remsi v157 v176
  let c0_i32_102 : BitVec 32 := 0#32
  let v179 : BitVec 1 := Scalar.cmpi .slt v177 c0_i32_102
  let c0_i32_103 : BitVec 32 := 0#32
  let v180 : BitVec 1 := Scalar.cmpi .slt v176 c0_i32_103
  let v181 : BitVec 1 := Scalar.xori v179 v180
  let c0_i32_101 : BitVec 32 := 0#32
  let v178 : BitVec 1 := Scalar.cmpi .ne v177 c0_i32_101
  let v182 : BitVec 1 := Scalar.andi v181 v178
  let v183 : BitVec 32 := Scalar.addi v177 v176
  let v184 : BitVec 32 := Scalar.select v182 v183 v177
  let v200 : Index := Scalar.indexCast v184
  let c1152_114 : Index := 1152#32
  let c0_115 : Index := 0#32
  ![0, v200.toNat, 1152, 0]
def k0_mult5 (k0_t1 : Fin k0_t1_loop.trips) : BitVec 32 :=
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_129 : BitVec 32 := 1#32
  let v227 : BitVec 32 := Scalar.subi v226 c1_i32_129
  let c12_i32_137 : BitVec 32 := 12#32
  let c0_i32_138 : BitVec 32 := 0#32
  let v245 : BitVec 1 := Scalar.cmpi .eq c12_i32_137 c0_i32_138
  let c1_i32_139 : BitVec 32 := 1#32
  let v246 : BitVec 32 := Scalar.select v245 c1_i32_139 c12_i32_137
  let v247 : BitVec 32 := Scalar.remsi v227 v246
  let c0_i32_141 : BitVec 32 := 0#32
  let v249 : BitVec 1 := Scalar.cmpi .slt v247 c0_i32_141
  let c0_i32_142 : BitVec 32 := 0#32
  let v250 : BitVec 1 := Scalar.cmpi .slt v246 c0_i32_142
  let v251 : BitVec 1 := Scalar.xori v249 v250
  let c0_i32_140 : BitVec 32 := 0#32
  let v248 : BitVec 1 := Scalar.cmpi .ne v247 c0_i32_140
  let v252 : BitVec 1 := Scalar.andi v251 v248
  let v253 : BitVec 32 := Scalar.addi v247 v246
  let v254 : BitVec 32 := Scalar.select v252 v253 v247
  let c64_i32_143 : BitVec 32 := 64#32
  let v255 : BitVec 32 := Scalar.muli v254 c64_i32_143
  v255
def k0_off6 (k0_t1 : Fin k0_t1_loop.trips) : Fin 3 → Nat :=
  let c0_144 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_129 : BitVec 32 := 1#32
  let v227 : BitVec 32 := Scalar.subi v226 c1_i32_129
  let c12_i32_137 : BitVec 32 := 12#32
  let c0_i32_138 : BitVec 32 := 0#32
  let v245 : BitVec 1 := Scalar.cmpi .eq c12_i32_137 c0_i32_138
  let c1_i32_139 : BitVec 32 := 1#32
  let v246 : BitVec 32 := Scalar.select v245 c1_i32_139 c12_i32_137
  let v247 : BitVec 32 := Scalar.remsi v227 v246
  let c0_i32_141 : BitVec 32 := 0#32
  let v249 : BitVec 1 := Scalar.cmpi .slt v247 c0_i32_141
  let c0_i32_142 : BitVec 32 := 0#32
  let v250 : BitVec 1 := Scalar.cmpi .slt v246 c0_i32_142
  let v251 : BitVec 1 := Scalar.xori v249 v250
  let c0_i32_140 : BitVec 32 := 0#32
  let v248 : BitVec 1 := Scalar.cmpi .ne v247 c0_i32_140
  let v252 : BitVec 1 := Scalar.andi v251 v248
  let v253 : BitVec 32 := Scalar.addi v247 v246
  let v254 : BitVec 32 := Scalar.select v252 v253 v247
  let c64_i32_143 : BitVec 32 := 64#32
  let v255 : BitVec 32 := Scalar.muli v254 c64_i32_143
  let v256 : BitVec 32 := v255
  let v257 : Index := Scalar.indexCast v256
  let c0_145 : Index := 0#32
  ![0, v257.toNat, 0]
def k0_off7 (k0_t1 : Fin k0_t1_loop.trips) : Fin 4 → Nat :=
  let c0_149 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_129 : BitVec 32 := 1#32
  let v227 : BitVec 32 := Scalar.subi v226 c1_i32_129
  let c0_i32_131 : BitVec 32 := 0#32
  let v229 : BitVec 1 := Scalar.cmpi .sgt v227 c0_i32_131
  let v230 : BitVec 32 := Scalar.extui v229
  let c0_i32_132 : BitVec 32 := 0#32
  let v231 : BitVec 1 := Scalar.cmpi .slt v227 c0_i32_132
  let v232 : BitVec 32 := Scalar.extui v231
  let v233 : BitVec 32 := Scalar.subi v230 v232
  let c12_i32_130 : BitVec 32 := 12#32
  let c0_i32_133 : BitVec 32 := 0#32
  let v234 : BitVec 1 := Scalar.cmpi .sgt c12_i32_130 c0_i32_133
  let v235 : BitVec 32 := Scalar.extui v234
  let c0_i32_134 : BitVec 32 := 0#32
  let v236 : BitVec 1 := Scalar.cmpi .slt c12_i32_130 c0_i32_134
  let v237 : BitVec 32 := Scalar.extui v236
  let v238 : BitVec 32 := Scalar.subi v235 v237
  let v239 : BitVec 1 := Scalar.cmpi .ne v233 v238
  let v240 : BitVec 32 := Scalar.remsi v227 c12_i32_130
  let c0_i32_135 : BitVec 32 := 0#32
  let v241 : BitVec 1 := Scalar.cmpi .ne v240 c0_i32_135
  let v242 : BitVec 1 := Scalar.andi v239 v241
  let v228 : BitVec 32 := Scalar.divsi v227 c12_i32_130
  let c1_i32_136 : BitVec 32 := 1#32
  let v243 : BitVec 32 := Scalar.subi v228 c1_i32_136
  let v244 : BitVec 32 := Scalar.select v242 v243 v228
  let v268 : Index := Scalar.indexCast v244
  let c12_i32_137 : BitVec 32 := 12#32
  let c0_i32_138 : BitVec 32 := 0#32
  let v245 : BitVec 1 := Scalar.cmpi .eq c12_i32_137 c0_i32_138
  let c1_i32_139 : BitVec 32 := 1#32
  let v246 : BitVec 32 := Scalar.select v245 c1_i32_139 c12_i32_137
  let v247 : BitVec 32 := Scalar.remsi v227 v246
  let c0_i32_141 : BitVec 32 := 0#32
  let v249 : BitVec 1 := Scalar.cmpi .slt v247 c0_i32_141
  let c0_i32_142 : BitVec 32 := 0#32
  let v250 : BitVec 1 := Scalar.cmpi .slt v246 c0_i32_142
  let v251 : BitVec 1 := Scalar.xori v249 v250
  let c0_i32_140 : BitVec 32 := 0#32
  let v248 : BitVec 1 := Scalar.cmpi .ne v247 c0_i32_140
  let v252 : BitVec 1 := Scalar.andi v251 v248
  let v253 : BitVec 32 := Scalar.addi v247 v246
  let v254 : BitVec 32 := Scalar.select v252 v253 v247
  let c64_i32_143 : BitVec 32 := 64#32
  let v255 : BitVec 32 := Scalar.muli v254 c64_i32_143
  let v256 : BitVec 32 := v255
  let v269 : Index := Scalar.indexCast v256
  let c0_150 : Index := 0#32
  ![0, v268.toNat, v269.toNat, 0]
def k0_mult6 (k0_t1 : Fin k0_t1_loop.trips) : BitVec 32 :=
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_151 : BitVec 32 := 1#32
  let v273 : BitVec 32 := Scalar.addi v226 c1_i32_151
  let c0_i32_153 : BitVec 32 := 0#32
  let v275 : BitVec 1 := Scalar.cmpi .sgt v273 c0_i32_153
  let v276 : BitVec 32 := Scalar.extui v275
  let c0_i32_154 : BitVec 32 := 0#32
  let v277 : BitVec 1 := Scalar.cmpi .slt v273 c0_i32_154
  let v278 : BitVec 32 := Scalar.extui v277
  let v279 : BitVec 32 := Scalar.subi v276 v278
  let c12_i32_152 : BitVec 32 := 12#32
  let c0_i32_155 : BitVec 32 := 0#32
  let v280 : BitVec 1 := Scalar.cmpi .sgt c12_i32_152 c0_i32_155
  let v281 : BitVec 32 := Scalar.extui v280
  let c0_i32_156 : BitVec 32 := 0#32
  let v282 : BitVec 1 := Scalar.cmpi .slt c12_i32_152 c0_i32_156
  let v283 : BitVec 32 := Scalar.extui v282
  let v284 : BitVec 32 := Scalar.subi v281 v283
  let v285 : BitVec 1 := Scalar.cmpi .ne v279 v284
  let v286 : BitVec 32 := Scalar.remsi v273 c12_i32_152
  let c0_i32_157 : BitVec 32 := 0#32
  let v287 : BitVec 1 := Scalar.cmpi .ne v286 c0_i32_157
  let v288 : BitVec 1 := Scalar.andi v285 v287
  let v274 : BitVec 32 := Scalar.divsi v273 c12_i32_152
  let c1_i32_158 : BitVec 32 := 1#32
  let v289 : BitVec 32 := Scalar.subi v274 c1_i32_158
  let v290 : BitVec 32 := Scalar.select v288 v289 v274
  let c256_i32_165 : BitVec 32 := 256#32
  let v301 : BitVec 32 := Scalar.muli v290 c256_i32_165
  v301
def k0_off8 (k0_t1 : Fin k0_t1_loop.trips) : Fin 4 → Nat :=
  let c0_166 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_151 : BitVec 32 := 1#32
  let v273 : BitVec 32 := Scalar.addi v226 c1_i32_151
  let c12_i32_159 : BitVec 32 := 12#32
  let c0_i32_160 : BitVec 32 := 0#32
  let v291 : BitVec 1 := Scalar.cmpi .eq c12_i32_159 c0_i32_160
  let c1_i32_161 : BitVec 32 := 1#32
  let v292 : BitVec 32 := Scalar.select v291 c1_i32_161 c12_i32_159
  let v293 : BitVec 32 := Scalar.remsi v273 v292
  let c0_i32_163 : BitVec 32 := 0#32
  let v295 : BitVec 1 := Scalar.cmpi .slt v293 c0_i32_163
  let c0_i32_164 : BitVec 32 := 0#32
  let v296 : BitVec 1 := Scalar.cmpi .slt v292 c0_i32_164
  let v297 : BitVec 1 := Scalar.xori v295 v296
  let c0_i32_162 : BitVec 32 := 0#32
  let v294 : BitVec 1 := Scalar.cmpi .ne v293 c0_i32_162
  let v298 : BitVec 1 := Scalar.andi v297 v294
  let v299 : BitVec 32 := Scalar.addi v293 v292
  let v300 : BitVec 32 := Scalar.select v298 v299 v293
  let v303 : Index := Scalar.indexCast v300
  let c0_i32_153 : BitVec 32 := 0#32
  let v275 : BitVec 1 := Scalar.cmpi .sgt v273 c0_i32_153
  let v276 : BitVec 32 := Scalar.extui v275
  let c0_i32_154 : BitVec 32 := 0#32
  let v277 : BitVec 1 := Scalar.cmpi .slt v273 c0_i32_154
  let v278 : BitVec 32 := Scalar.extui v277
  let v279 : BitVec 32 := Scalar.subi v276 v278
  let c12_i32_152 : BitVec 32 := 12#32
  let c0_i32_155 : BitVec 32 := 0#32
  let v280 : BitVec 1 := Scalar.cmpi .sgt c12_i32_152 c0_i32_155
  let v281 : BitVec 32 := Scalar.extui v280
  let c0_i32_156 : BitVec 32 := 0#32
  let v282 : BitVec 1 := Scalar.cmpi .slt c12_i32_152 c0_i32_156
  let v283 : BitVec 32 := Scalar.extui v282
  let v284 : BitVec 32 := Scalar.subi v281 v283
  let v285 : BitVec 1 := Scalar.cmpi .ne v279 v284
  let v286 : BitVec 32 := Scalar.remsi v273 c12_i32_152
  let c0_i32_157 : BitVec 32 := 0#32
  let v287 : BitVec 1 := Scalar.cmpi .ne v286 c0_i32_157
  let v288 : BitVec 1 := Scalar.andi v285 v287
  let v274 : BitVec 32 := Scalar.divsi v273 c12_i32_152
  let c1_i32_158 : BitVec 32 := 1#32
  let v289 : BitVec 32 := Scalar.subi v274 c1_i32_158
  let v290 : BitVec 32 := Scalar.select v288 v289 v274
  let c256_i32_165 : BitVec 32 := 256#32
  let v301 : BitVec 32 := Scalar.muli v290 c256_i32_165
  let v302 : BitVec 32 := v301
  let v304 : Index := Scalar.indexCast v302
  let c0_167 : Index := 0#32
  ![0, v303.toNat, v304.toNat, 0]
def k0_off9 (k0_t1 : Fin k0_t1_loop.trips) : Fin 4 → Nat :=
  let c0_168 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_151 : BitVec 32 := 1#32
  let v273 : BitVec 32 := Scalar.addi v226 c1_i32_151
  let c12_i32_159 : BitVec 32 := 12#32
  let c0_i32_160 : BitVec 32 := 0#32
  let v291 : BitVec 1 := Scalar.cmpi .eq c12_i32_159 c0_i32_160
  let c1_i32_161 : BitVec 32 := 1#32
  let v292 : BitVec 32 := Scalar.select v291 c1_i32_161 c12_i32_159
  let v293 : BitVec 32 := Scalar.remsi v273 v292
  let c0_i32_163 : BitVec 32 := 0#32
  let v295 : BitVec 1 := Scalar.cmpi .slt v293 c0_i32_163
  let c0_i32_164 : BitVec 32 := 0#32
  let v296 : BitVec 1 := Scalar.cmpi .slt v292 c0_i32_164
  let v297 : BitVec 1 := Scalar.xori v295 v296
  let c0_i32_162 : BitVec 32 := 0#32
  let v294 : BitVec 1 := Scalar.cmpi .ne v293 c0_i32_162
  let v298 : BitVec 1 := Scalar.andi v297 v294
  let v299 : BitVec 32 := Scalar.addi v293 v292
  let v300 : BitVec 32 := Scalar.select v298 v299 v293
  let v307 : Index := Scalar.indexCast v300
  let c0_169 : Index := 0#32
  let c0_170 : Index := 0#32
  ![0, v307.toNat, 0, 0]
def k0_off10 (k0_t1 : Fin k0_t1_loop.trips) : Fin 4 → Nat :=
  let c0_175 : Index := 0#32
  let c2_i32 : BitVec 32 := 2#32
  let c0_i32_44 : BitVec 32 := 0#32
  let c1_i32 : BitVec 32 := 1#32
  let arg10 : BitVec 32 := Scf.iv c0_i32_44 c1_i32 k0_t1
  let v109 : BitVec 32 := Scalar.muli c2_i32 arg10
  let c1_i32_69 : BitVec 32 := 1#32
  let v110 : BitVec 32 := Scalar.addi v109 c1_i32_69
  let c1_i32_128 : BitVec 32 := 1#32
  let v226 : BitVec 32 := Scalar.addi v110 c1_i32_128
  let c1_i32_151 : BitVec 32 := 1#32
  let v273 : BitVec 32 := Scalar.addi v226 c1_i32_151
  let c12_i32_159 : BitVec 32 := 12#32
  let c0_i32_160 : BitVec 32 := 0#32
  let v291 : BitVec 1 := Scalar.cmpi .eq c12_i32_159 c0_i32_160
  let c1_i32_161 : BitVec 32 := 1#32
  let v292 : BitVec 32 := Scalar.select v291 c1_i32_161 c12_i32_159
  let v293 : BitVec 32 := Scalar.remsi v273 v292
  let c0_i32_163 : BitVec 32 := 0#32
  let v295 : BitVec 1 := Scalar.cmpi .slt v293 c0_i32_163
  let c0_i32_164 : BitVec 32 := 0#32
  let v296 : BitVec 1 := Scalar.cmpi .slt v292 c0_i32_164
  let v297 : BitVec 1 := Scalar.xori v295 v296
  let c0_i32_162 : BitVec 32 := 0#32
  let v294 : BitVec 1 := Scalar.cmpi .ne v293 c0_i32_162
  let v298 : BitVec 1 := Scalar.andi v297 v294
  let v299 : BitVec 32 := Scalar.addi v293 v292
  let v300 : BitVec 32 := Scalar.select v298 v299 v293
  let v316 : Index := Scalar.indexCast v300
  let c1152_176 : Index := 1152#32
  let c0_177 : Index := 0#32
  ![0, v316.toNat, 1152, 0]
def k0_mult7 : BitVec 32 :=
  let c640_i32 : BitVec 32 := 640#32
  c640_i32
def k0_mult8 : BitVec 32 :=
  let c704_i32 : BitVec 32 := 704#32
  c704_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x12x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x12x2304x128 : Shape := ⟨4, ![16, 12, 2304, 128]⟩
abbrev S16x768x2304 : Shape := ⟨3, ![16, 768, 2304]⟩
abbrev S16x12x64x2304 : Shape := ⟨4, ![16, 12, 64, 2304]⟩
abbrev S16x12x2048x128 : Shape := ⟨4, ![16, 12, 2048, 128]⟩
abbrev S16x12x2048x2304 : Shape := ⟨4, ![16, 12, 2048, 2304]⟩
abbrev S_ : Shape := ⟨0, ![]⟩
abbrev S16x12x2048 : Shape := ⟨3, ![16, 12, 2048]⟩
abbrev S16x12x2048x1 : Shape := ⟨4, ![16, 12, 2048, 1]⟩
abbrev S16x12x64x2048 : Shape := ⟨4, ![16, 12, 64, 2048]⟩
abbrev S16x2048x12x64 : Shape := ⟨4, ![16, 2048, 12, 64]⟩
abbrev S16x8x256x768 : Shape := ⟨4, ![16, 8, 256, 768]⟩
abbrev S16x8x768x256 : Shape := ⟨4, ![16, 8, 768, 256]⟩

abbrev nBuf : Space → Nat
  | .hbm => 30
  | .vmem => 0
  | .smem => 0
  | _ => 0

abbrev bufTy : (tb : Table) → Fin (tcTables nBuf tb) → BufTy
  | .hbm, ⟨0, _⟩ => ⟨S16x12x2304x128, .bf16⟩
  | .hbm, ⟨1, _⟩ => ⟨S16x12x2304x128, .bf16⟩
  | .hbm, ⟨2, _⟩ => ⟨S16x768x2304, .bf16⟩
  | .hbm, ⟨3, _⟩ => ⟨S16x12x64x2304, .bf16⟩
  | .hbm, ⟨4, _⟩ => ⟨S16x12x2048x128, .bf16⟩
  | .hbm, ⟨5, _⟩ => ⟨S16x12x2048x2304, .f32⟩
  | .hbm, ⟨6, _⟩ => ⟨S_, .f32⟩
  | .hbm, ⟨7, _⟩ => ⟨S_, .f32⟩
  | .hbm, ⟨8, _⟩ => ⟨S16x12x2048x2304, .f32⟩
  | .hbm, ⟨9, _⟩ => ⟨S16x12x2048x2304, .f32⟩
  | .hbm, ⟨10, _⟩ => ⟨S_, .f32⟩
  | .hbm, ⟨11, _⟩ => ⟨S16x12x2048, .f32⟩
  | .hbm, ⟨12, _⟩ => ⟨S_, .f32⟩
  | .hbm, ⟨13, _⟩ => ⟨S16x12x2048, .f32⟩
  | .hbm, ⟨14, _⟩ => ⟨S16x12x2048, .f32⟩
  | .hbm, ⟨15, _⟩ => ⟨S16x12x2048x1, .f32⟩
  | .hbm, ⟨16, _⟩ => ⟨S16x12x2048x2304, .f32⟩
  | .hbm, ⟨17, _⟩ => ⟨S16x12x2048x2304, .f32⟩
  | .hbm, ⟨18, _⟩ => ⟨S16x12x2048x2304, .f32⟩
  | .hbm, ⟨19, _⟩ => ⟨S_, .f32⟩
  | .hbm, ⟨20, _⟩ => ⟨S16x12x2048, .f32⟩
  | .hbm, ⟨21, _⟩ => ⟨S16x12x2048x1, .f32⟩
  | .hbm, ⟨22, _⟩ => ⟨S16x12x2048x2304, .f32⟩
  | .hbm, ⟨23, _⟩ => ⟨S16x12x2048x2304, .f32⟩
  | .hbm, ⟨24, _⟩ => ⟨S16x12x2048x2304, .bf16⟩
  | .hbm, ⟨25, _⟩ => ⟨S16x12x64x2048, .f32⟩
  | .hbm, ⟨26, _⟩ => ⟨S16x2048x12x64, .f32⟩
  | .hbm, ⟨27, _⟩ => ⟨S16x2048x12x64, .bf16⟩
  | .hbm, ⟨28, _⟩ => ⟨S16x8x256x768, .bf16⟩
  | .hbm, ⟨29, _⟩ => ⟨S16x8x768x256, .bf16⟩
  | _, _ => ⟨S16x12x2304x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x8x768x256 : Shape := ⟨4, ![16, 8, 768, 256]⟩
abbrev S16x2304x256 : Shape := ⟨3, ![16, 2304, 256]⟩
abbrev S16x2304x1024 : Shape := ⟨3, ![16, 2304, 1024]⟩
abbrev S16x1x1024 : Shape := ⟨3, ![16, 1, 1024]⟩
abbrev S64 : Shape := ⟨1, ![64]⟩
abbrev S1024x1024 : Shape := ⟨2, ![1024, 1024]⟩
abbrev S1024 : Shape := ⟨1, ![1024]⟩
abbrev S6x6 : Shape := ⟨2, ![6, 6]⟩
abbrev S_ : Shape := ⟨0, ![]⟩
abbrev S6x1x6x1 : Shape := ⟨4, ![6, 1, 6, 1]⟩
abbrev S6x64x6x64 : Shape := ⟨4, ![6, 64, 6, 64]⟩
abbrev S384x384 : Shape := ⟨2, ![384, 384]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x256 : Shape := ⟨2, ![256, 256]⟩
abbrev S1x1024 : Shape := ⟨2, ![1, 1024]⟩
abbrev S1x1024x1024 : Shape := ⟨3, ![1, 1024, 1024]⟩
abbrev S1x4x768x256 : Shape := ⟨4, ![1, 4, 768, 256]⟩
abbrev S1x1024x256 : Shape := ⟨3, ![1, 1024, 256]⟩
abbrev S1x1x1024 : Shape := ⟨3, ![1, 1, 1024]⟩
abbrev S1x256x256 : Shape := ⟨3, ![1, 256, 256]⟩
abbrev S1x1x768x256 : Shape := ⟨4, ![1, 1, 768, 256]⟩
abbrev S768x256 : Shape := ⟨2, ![768, 256]⟩
abbrev S256x768 : Shape := ⟨2, ![256, 768]⟩
abbrev S1x256x768 : Shape := ⟨3, ![1, 256, 768]⟩
abbrev S768x1024 : Shape := ⟨2, ![768, 1024]⟩
abbrev S256x1024 : Shape := ⟨2, ![256, 1024]⟩
abbrev S1x256x1024 : Shape := ⟨3, ![1, 256, 1024]⟩
abbrev S256x1 : Shape := ⟨2, ![256, 1]⟩

abbrev nBuf : Space → Nat
  | .hbm => 27
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x8x768x256, .bf16⟩
  | .hbm, ⟨2, _⟩ => ⟨S16x2304x256, .f32⟩
  | .hbm, ⟨3, _⟩ => ⟨S16x2304x1024, .bf16⟩
  | .hbm, ⟨4, _⟩ => ⟨S16x1x1024, .f32⟩
  | .hbm, ⟨5, _⟩ => ⟨S64, .f32⟩
  | .hbm, ⟨6, _⟩ => ⟨S1024x1024, .f32⟩
  | .hbm, ⟨7, _⟩ => ⟨S1024, .f32⟩
  | .hbm, ⟨8, _⟩ => ⟨S6x6, .i32⟩
  | .hbm, ⟨9, _⟩ => ⟨S6x6, .i32⟩
  | .hbm, ⟨10, _⟩ => ⟨S_, .i32⟩
  | .hbm, ⟨11, _⟩ => ⟨S6x6, .i32⟩
  | .hbm, ⟨12, _⟩ => ⟨S6x6, .i32⟩
  | .hbm, ⟨13, _⟩ => ⟨S6x6, .i1⟩
  | .hbm, ⟨14, _⟩ => ⟨S6x6, .f32⟩
  | .hbm, ⟨15, _⟩ => ⟨S6x1x6x1, .f32⟩
  | .hbm, ⟨16, _⟩ => ⟨S6x64x6x64, .f32⟩
  | .hbm, ⟨17, _⟩ => ⟨S384x384, .f32⟩
  | .hbm, ⟨18, _⟩ => ⟨S384x384, .bf16⟩
  | .hbm, ⟨19, _⟩ => ⟨S1x64, .f32⟩
  | .hbm, ⟨20, _⟩ => ⟨S4x64, .f32⟩
  | .hbm, ⟨21, _⟩ => ⟨S256, .f32⟩
  | .hbm, ⟨22, _⟩ => ⟨S1x256, .f32⟩
  | .hbm, ⟨23, _⟩ => ⟨S1024x1024, .bf16⟩
  | .hbm, ⟨24, _⟩ => ⟨S256x256, .bf16⟩
  | .hbm, ⟨25, _⟩ => ⟨S1x1024, .f32⟩
  | .hbm, ⟨26, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x768x256, .bf16⟩
  | .local _ .vmem, ⟨3, _⟩ => ⟨S1x4x768x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x256, .f32⟩
  | .local _ .vmem, ⟨11, _⟩ => ⟨S256x256, .bf16⟩
  | .local _ .vmem, ⟨12, _⟩ => ⟨S1024x1024, .bf16⟩
  | .local _ .vmem, ⟨13, _⟩ => ⟨S1x1024, .f32⟩
  | .local _ .vmem, ⟨14, _⟩ => ⟨S1x1024x1024, .f32⟩
  | .local _ .vmem, ⟨15, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x2048x1024 : Shape := ⟨3, ![16, 2048, 1024]⟩
abbrev S16x8x768x256 : Shape := ⟨4, ![16, 8, 768, 256]⟩
abbrev S16x2304x256 : Shape := ⟨3, ![16, 2304, 256]⟩
abbrev S16x2304x1024 : Shape := ⟨3, ![16, 2304, 1024]⟩
abbrev S16x1x1024 : Shape := ⟨3, ![16, 1, 1024]⟩
abbrev S64 : Shape := ⟨1, ![64]⟩
abbrev S1024x1024 : Shape := ⟨2, ![1024, 1024]⟩
abbrev S1024 : Shape := ⟨1, ![1024]⟩
abbrev S16x8x256x768 : Shape := ⟨4, ![16, 8, 256, 768]⟩
abbrev S16x2048x768 : Shape := ⟨3, ![16, 2048, 768]⟩
abbrev S16x2048x256 : Shape := ⟨3, ![16, 2048, 256]⟩
abbrev S16x2048x4x64 : Shape := ⟨4, ![16, 2048, 4, 64]⟩
abbrev S_ : Shape := ⟨0, ![]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x8x768x256, .bf16⟩
  | .hbm, ⟨2, _⟩ => ⟨S16x2304x256, .f32⟩
  | .hbm, ⟨3, _⟩ => ⟨S16x2304x1024, .bf16⟩
  | .hbm, ⟨4, _⟩ => ⟨S16x1x1024, .f32⟩
  | .hbm, ⟨5, _⟩ => ⟨S64, .f32⟩
  | .hbm, ⟨6, _⟩ => ⟨S1024x1024, .f32⟩
  | .hbm, ⟨7, _⟩ => ⟨S1024, .f32⟩
  | .hbm, ⟨8, _⟩ => ⟨S16x8x768x256, .f32⟩
  | .hbm, ⟨9, _⟩ => ⟨S16x8x256x768, .f32⟩
  | .hbm, ⟨10, _⟩ => ⟨S16x2048x768, .f32⟩
  | .hbm, ⟨11, _⟩ => ⟨S16x2048x256, .f32⟩
  | .hbm, ⟨12, _⟩ => ⟨S16x2048x4x64, .f32⟩
  | .hbm, ⟨13, _⟩ => ⟨S16x2048x4x64, .f32⟩
  | .hbm, ⟨14, _⟩ => ⟨S_, .f32⟩
  | .hbm, ⟨15, _⟩ => ⟨S16x2048x4, .f32⟩
  | .hbm, ⟨16, _⟩ => ⟨S16x2048x4x1, .f32⟩
  | .hbm, ⟨17, _⟩ => ⟨S_, .f32⟩
  | .hbm, ⟨18, _⟩ => ⟨S16x2048x4x1, .f32⟩
  | .hbm, ⟨19, _⟩ => ⟨S16x2048x4x1, .f32⟩
  | .hbm, ⟨20, _⟩ => ⟨S_, .f32⟩
  | .hbm, ⟨21, _⟩ => ⟨S16x2048x4x1, .f32⟩
  | .hbm, ⟨22, _⟩ => ⟨S16x2048x4x1, .f32⟩
  | .hbm, ⟨23, _⟩ => ⟨S16x2048x4x1, .f32⟩
  | .hbm, ⟨24, _⟩ => ⟨S16x2048x4x64, .f32⟩
  | .hbm, ⟨25, _⟩ => ⟨S16x2048x4x64, .f32⟩
  | .hbm, ⟨26, _⟩ => ⟨S1x1x1x64, .f32⟩
  | .hbm, ⟨27, _⟩ => ⟨S16x2048x4x64, .f32⟩
  | .hbm, ⟨28, _⟩ => ⟨S16x2048x4x64, .f32⟩
  | .hbm, ⟨29, _⟩ => ⟨S16x2048x256, .f32⟩
  | .hbm, ⟨30, _⟩ => ⟨S16x2048x1024, .f32⟩
  | .hbm, ⟨31, _⟩ => ⟨S16x2048x1024, .bf16⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x256x1024 : Shape := ⟨3, ![16, 256, 1024]⟩
abbrev S16x1x1024 : Shape := ⟨3, ![16, 1, 1024]⟩
abbrev S1x1024 : Shape := ⟨2, ![1, 1024]⟩
abbrev S1024x3120 : Shape := ⟨2, ![1024, 3120]⟩
abbrev S1024 : Shape := ⟨1, ![1024]⟩
abbrev S384 : Shape := ⟨1, ![384]⟩
abbrev S384x576 : Shape := ⟨2, ![384, 576]⟩
abbrev S256 : Shape := ⟨1, ![256]⟩
abbrev S256x768 : Shape := ⟨2, ![256, 768]⟩
abbrev S64 : Shape := ⟨1, ![64]⟩
abbrev S5x768 : Shape := ⟨2, ![5, 768]⟩
abbrev S2x4 : Shape := ⟨2, ![2, 4]⟩
abbrev S2048x2x8 : Shape := ⟨3, ![2048, 2, 8]⟩
abbrev S2048x2x16 : Shape := ⟨3, ![2048, 2, 16]⟩
abbrev S1024x384 : Shape := ⟨2, ![1024, 384]⟩
abbrev S1024x256 : Shape := ⟨2, ![1024, 256]⟩
abbrev S1024x32 : Shape := ⟨2, ![1024, 32]⟩
abbrev S1024x128 : Shape := ⟨2, ![1024, 128]⟩
abbrev S1024x768 : Shape := ⟨2, ![1024, 768]⟩
abbrev S1024x8 : Shape := ⟨2, ![1024, 8]⟩
abbrev S1024x1024 : Shape := ⟨2, ![1024, 1024]⟩
abbrev S_ : Shape := ⟨0, ![]⟩
abbrev S1024x64 : Shape := ⟨2, ![1024, 64]⟩
abbrev S1024x112 : Shape := ⟨2, ![1024, 112]⟩
abbrev S1024x3328 : Shape := ⟨2, ![1024, 3328]⟩
abbrev S384x6x96 : Shape := ⟨3, ![384, 6, 96]⟩
abbrev S384x6x32 : Shape := ⟨3, ![384, 6, 32]⟩
abbrev S384x6x128 : Shape := ⟨3, ![384, 6, 128]⟩
abbrev S256x6x128 : Shape := ⟨3, ![256, 6, 128]⟩
abbrev S256x6x64 : Shape := ⟨3, ![256, 6, 64]⟩
abbrev S1x384 : Shape := ⟨2, ![1, 384]⟩
abbrev S384x768 : Shape := ⟨2, ![384, 768]⟩
abbrev S1x256 : Shape := ⟨2, ![1, 256]⟩
abbrev S256x384 : Shape := ⟨2, ![256, 384]⟩
abbrev S384x256 : Shape := ⟨2, ![384, 256]⟩
abbrev S128x1024 : Shape := ⟨2, ![128, 1024]⟩
abbrev S1x64 : Shape := ⟨2, ![1, 64]⟩
abbrev S6x64 : Shape := ⟨2, ![6, 64]⟩
abbrev S4x64 : Shape := ⟨2, ![4, 64]⟩
abbrev S3x768 : Shape := ⟨2, ![3, 768]⟩
abbrev S8x768 : Shape := ⟨2, ![8, 768]⟩
abbrev S8 : Shape := ⟨1, ![8]⟩
abbrev S112 : Shape := ⟨1, ![112]⟩
abbrev S128 : Shape := ⟨1, ![128]⟩
abbrev S1x128 : Shape := ⟨2, ![1, 128]⟩
abbrev S6x6 : Shape := ⟨2, ![6, 6]⟩
abbrev S6x1x6x1 : Shape := ⟨4, ![6, 1, 6, 1]⟩
abbrev S6x64x6x64 : Shape := ⟨4, ![6, 64, 6, 64]⟩
abbrev S2048x2x1x8 : Shape := ⟨4, ![2048, 2, 1, 8]⟩
abbrev S2048x2x2x8 : Shape := ⟨4, ![2048, 2, 2, 8]⟩
abbrev S2048x32 : Shape := ⟨2, ![2048, 32]⟩
abbrev S2048x64 : Shape := ⟨2, ![2048, 64]⟩
abbrev S2048x128 : Shape := ⟨2, ![2048, 128]⟩
abbrev S256x128 : Shape := ⟨2, ![256, 128]⟩
abbrev S2304x128 : Shape := ⟨2, ![2304, 128]⟩
abbrev S2048x2x1x16 : Shape := ⟨4, ![2048, 2, 1, 16]⟩
abbrev S2048x2x2x16 : Shape := ⟨4, ![2048, 2, 2, 16]⟩
abbrev S384x384 : Shape := ⟨2, ![384, 384]⟩
abbrev S16x12x2304x128 : Shape := ⟨4, ![16, 12, 2304, 128]⟩
abbrev S16x768x2304 : Shape := ⟨3, ![16, 768, 2304]⟩
abbrev S16x2304x768 : Shape := ⟨3, ![16, 2304, 768]⟩
abbrev S16x2304x128 : Shape := ⟨3, ![16, 2304, 128]⟩
abbrev S16x2304x1024 : Shape := ⟨3, ![16, 2304, 1024]⟩
abbrev S1x256x1024 : Shape := ⟨3, ![1, 256, 1024]⟩
abbrev S1x8x1024 : Shape := ⟨3, ![1, 8, 1024]⟩
abbrev S1x1x1024 : Shape := ⟨3, ![1, 1, 1024]⟩
abbrev S768x128 : Shape := ⟨2, ![768, 128]⟩
abbrev S1x12x768x128 : Shape := ⟨4, ![1, 12, 768, 128]⟩
abbrev S1x768x768 : Shape := ⟨3, ![1, 768, 768]⟩
abbrev S1x768x128 : Shape := ⟨3, ![1, 768, 128]⟩
abbrev S1x768x1024 : Shape := ⟨3, ![1, 768, 1024]⟩
abbrev S272x1 : Shape := ⟨2, ![272, 1]⟩
abbrev S256x1024 : Shape := ⟨2, ![256, 1024]⟩
abbrev S8x1024 : Shape := ⟨2, ![8, 1024]⟩
abbrev S272x1024 : Shape := ⟨2, ![272, 1024]⟩
abbrev S272 : Shape := ⟨1, ![272]⟩
abbrev S272x768 : Shape := ⟨2, ![272, 768]⟩
abbrev S256x256 : Shape := ⟨2, ![256, 256]⟩
abbrev S128x256 : Shape := ⟨2, ![128, 256]⟩
abbrev S64x256 : Shape := ⟨2, ![64, 256]⟩
abbrev S1x64x256 : Shape := ⟨3, ![1, 64, 256]⟩
abbrev S1x768 : Shape := ⟨2, ![1, 768]⟩
abbrev S1x256x256 : Shape := ⟨3, ![1, 256, 256]⟩
abbrev S1x256x128 : Shape := ⟨3, ![1, 256, 128]⟩
abbrev S256x1 : Shape := ⟨2, ![256, 1]⟩
abbrev S1x1x256x128 : Shape := ⟨4, ![1, 1, 256, 128]⟩
abbrev S1x384x256 : Shape := ⟨3, ![1, 384, 256]⟩

abbrev nBuf : Space → Nat
  | .hbm => 153
  | .vmem => 60
  | .smem => 0
  | _ => 0

abbrev hbmTy0_0 (i : Nat) : BufTy := match i % 128 with
  | 0 => ⟨S16x2048x1024, .f32⟩
  | 1 => ⟨S16x256x1024, .f32⟩
  | 2 => ⟨S16x1x1024, .f32⟩
  | 3 => ⟨S16x1x1024, .f32⟩
  | 4 => ⟨S1x1024, .f32⟩
  | 5 => ⟨S1x1024, .f32⟩
  | 6 => ⟨S1024x3120, .f32⟩
  | 7 => ⟨S1024, .f32⟩
  | 8 => ⟨S384, .f32⟩
  | 9 => ⟨S384x576, .f32⟩
  | 10 => ⟨S256, .f32⟩
  | 11 => ⟨S256x768, .f32⟩
  | 12 => ⟨S64, .f32⟩
  | 13 => ⟨S64, .f32⟩
  | 14 => ⟨S5x768, .f32⟩
  | 15 => ⟨S2x4, .f32⟩
  | 16 => ⟨S2x4, .f32⟩
  | 17 => ⟨S2048x2x8, .f32⟩
  | 18 => ⟨S2048x2x8, .f32⟩
  | 19 => ⟨S2048x2x16, .f32⟩
  | 20 => ⟨S2048x2x16, .f32⟩
  | 21 => ⟨S1024x384, .f32⟩
  | 22 => ⟨S1024x256, .f32⟩
  | 23 => ⟨S1024x32, .f32⟩
  | 24 => ⟨S1024x384, .f32⟩
  | 25 => ⟨S1024x128, .f32⟩
  | 26 => ⟨S1024x128, .f32⟩
  | 27 => ⟨S1024x768, .f32⟩
  | 28 => ⟨S1024x8, .f32⟩
  | 29 => ⟨S1024x8, .f32⟩
  | 30 => ⟨S1024x1024, .f32⟩
  | 31 => ⟨S_, .f32⟩
  | 32 => ⟨S1024x64, .f32⟩
  | 33 => ⟨S_, .f32⟩
  | 34 => ⟨S1024x32, .f32⟩
  | 35 => ⟨S1024x128, .f32⟩
  | 36 => ⟨S1024x64, .f32⟩
  | 37 => ⟨S1024x64, .f32⟩
  | 38 => ⟨S1024x256, .f32⟩
  | 39 => ⟨S_, .f32⟩
  | 40 => ⟨S1024x112, .f32⟩
  | 41 => ⟨S1024x128, .f32⟩
  | 42 => ⟨S1024x3328, .f32⟩
  | 43 => ⟨S1024x3328, .bf16⟩
  | 44 => ⟨S384x6x96, .f32⟩
  | 45 => ⟨S_, .f32⟩
  | 46 => ⟨S384x6x32, .f32⟩
  | 47 => ⟨S384x6x128, .f32⟩
  | 48 => ⟨S256x6x128, .f32⟩
  | 49 => ⟨S256x6x64, .f32⟩
  | 50 => ⟨S_, .f32⟩
  | 51 => ⟨S256x6x64, .f32⟩
  | 52 => ⟨S256x6x128, .f32⟩
  | 53 => ⟨S256x6x64, .f32⟩
  | 54 => ⟨S1x1024, .f32⟩
  | 55 => ⟨S1x384, .f32⟩
  | 56 => ⟨S384x768, .f32⟩
  | 57 => ⟨S384x768, .bf16⟩
  | 58 => ⟨S1x256, .f32⟩
  | 59 => ⟨S256x768, .f32⟩
  | 60 => ⟨S256x768, .bf16⟩
  | 61 => ⟨S256x384, .f32⟩
  | 62 => ⟨S384x256, .f32⟩
  | 63 => ⟨S384x256, .bf16⟩
  | 64 => ⟨S128x1024, .f32⟩
  | 65 => ⟨S128x1024, .bf16⟩
  | 66 => ⟨S1x64, .f32⟩
  | 67 => ⟨S6x64, .f32⟩
  | 68 => ⟨S384, .f32⟩
  | 69 => ⟨S_, .f32⟩
  | 70 => ⟨S384, .f32⟩
  | 71 => ⟨S384, .f32⟩
  | 72 => ⟨S1x384, .f32⟩
  | 73 => ⟨S1x64, .f32⟩
  | 74 => ⟨S4x64, .f32⟩
  | 75 => ⟨S256, .f32⟩
  | 76 => ⟨S1x256, .f32⟩
  | 77 => ⟨S_, .f32⟩
  | 78 => ⟨S3x768, .f32⟩
  | 79 => ⟨S8x768, .f32⟩
  | 80 => ⟨S_, .f32⟩
  | 81 => ⟨S8, .f32⟩
  | 82 => ⟨S8, .f32⟩
  | 83 => ⟨S_, .f32⟩
  | 84 => ⟨S112, .f32⟩
  | 85 => ⟨S128, .f32⟩
  | 86 => ⟨S1x128, .f32⟩
  | 87 => ⟨S_, .f32⟩
  | 88 => ⟨S8, .f32⟩
  | 89 => ⟨S8, .f32⟩
  | 90 => ⟨S_, .f32⟩
  | 91 => ⟨S112, .f32⟩
  | 92 => ⟨S128, .f32⟩
  | 93 => ⟨S1x128, .f32⟩
  | 94 => ⟨S6x6, .i32⟩
  | 95 => ⟨S6x6, .i32⟩
  | 96 => ⟨S_, .i32⟩
  | 97 => ⟨S6x6, .i32⟩
  | 98 => ⟨S6x6, .i32⟩
  | 99 => ⟨S6x6, .i1⟩
  | 100 => ⟨S6x6, .f32⟩
  | 101 => ⟨S6x1x6x1, .f32⟩
  | 102 => ⟨S6x64x6x64, .f32⟩
  | 103 => ⟨S2048x2x1x8, .f32⟩
  | 104 => ⟨S2048x2x1x8, .f32⟩
  | 105 => ⟨S2048x2x2x8, .f32⟩
  | 106 => ⟨S2048x32, .f32⟩
  | 107 => ⟨S_, .f32⟩
  | 108 => ⟨S2048x64, .f32⟩
  | 109 => ⟨S_, .f32⟩
  | 110 => ⟨S2048x32, .f32⟩
  | 111 => ⟨S2048x128, .f32⟩
  | 112 => ⟨S_, .f32⟩
  | 113 => ⟨S256x128, .f32⟩
  | 114 => ⟨S2304x128, .f32⟩
  | 115 => ⟨S2048x2x8, .f32⟩
  | 116 => ⟨S2048x2x1x8, .f32⟩
  | 117 => ⟨S2048x2x1x8, .f32⟩
  | 118 => ⟨S2048x2x2x8, .f32⟩
  | 119 => ⟨S2048x32, .f32⟩
  | 120 => ⟨S_, .f32⟩
  | 121 => ⟨S2048x64, .f32⟩
  | 122 => ⟨S_, .f32⟩
  | 123 => ⟨S2048x32, .f32⟩
  | 124 => ⟨S2048x128, .f32⟩
  | 125 => ⟨S_, .f32⟩
  | 126 => ⟨S256x128, .f32⟩
  | 127 => ⟨S2304x128, .f32⟩
  | _ => ⟨S16x2048x1024, .f32⟩

abbrev hbmTy0_1 (i : Nat) : BufTy := match i % 128 with
  | 0 => ⟨S2048x2x1x16, .f32⟩
  | 1 => ⟨S2048x2x1x16, .f32⟩
  | 2 => ⟨S2048x2x2x16, .f32⟩
  | 3 => ⟨S2048x64, .f32⟩
  | 4 => ⟨S2048x128, .f32⟩
  | 5 => ⟨S_, .f32⟩
  | 6 => ⟨S256x128, .f32⟩
  | 7 => ⟨S2304x128, .f32⟩
  | 8 => ⟨S2048x2x16, .f32⟩
  | 9 => ⟨S2048x2x1x16, .f32⟩
  | 10 => ⟨S2048x2x1x16, .f32⟩
  | 11 => ⟨S2048x2x2x16, .f32⟩
  | 12 => ⟨S2048x64, .f32⟩
  | 13 => ⟨S2048x128, .f32⟩
  | 14 => ⟨S_, .f32⟩
  | 15 => ⟨S256x128, .f32⟩
  | 16 => ⟨S2304x128, .f32⟩
  | 17 => ⟨S384x384, .f32⟩
  | 18 => ⟨S384x384, .bf16⟩
  | 19 => ⟨S16x12x2304x128, .bf16⟩
  | 20 => ⟨S16x12x2304x128, .bf16⟩
  | 21 => ⟨S16x768x2304, .bf16⟩
  | 22 => ⟨S16x2304x768, .f32⟩
  | 23 => ⟨S16x2304x128, .f32⟩
  | 24 => ⟨S16x2304x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1024x3328, .bf16⟩
  | .local _ .vmem, ⟨28, _⟩ => ⟨S1x384, .f32⟩
  | .local _ .vmem, ⟨29, _⟩ => ⟨S384x768, .bf16⟩
  | .local _ .vmem, ⟨30, _⟩ => ⟨S1x256, .f32⟩
  | .local _ .vmem, ⟨31, _⟩ => ⟨S256x768, .bf16⟩
  | .local _ .vmem, ⟨32, _⟩ => ⟨S384x256, .bf16⟩
  | .local _ .vmem, ⟨33, _⟩ => ⟨S128x1024, .bf16⟩
  | .local _ .vmem, ⟨34, _⟩ => ⟨S1x384, .f32⟩
  | .local _ .vmem, ⟨35, _⟩ => ⟨S1x256, .f32⟩
  | .local _ .vmem, ⟨36, _⟩ => ⟨S8x768, .f32⟩
  | .local _ .vmem, ⟨37, _⟩ => ⟨S1x128, .f32⟩
  | .local _ .vmem, ⟨38, _⟩ => ⟨S1x128, .f32⟩
  | .local _ .vmem, ⟨39, _⟩ => ⟨S768x128, .f32⟩
  | .local _ .vmem, ⟨40, _⟩ => ⟨S768x128, .f32⟩
  | .local _ .vmem, ⟨41, _⟩ => ⟨S768x128, .f32⟩
  | .local _ .vmem, ⟨42, _⟩ => ⟨S768x128, .f32⟩
  | .local _ .vmem, ⟨43, _⟩ => ⟨S768x128, .f32⟩
  | .local _ .vmem, ⟨44, _⟩ => ⟨S768x128, .f32⟩
  | .local _ .vmem, ⟨45, _⟩ => ⟨S768x128, .f32⟩
  | .local _ .vmem, ⟨46, _⟩ => ⟨S768x128, .f32⟩
  | .local _ .vmem, ⟨47, _⟩ => ⟨S384x384, .bf16⟩
  | .local _ .vmem, ⟨48, _⟩ => ⟨S1x12x768x128, .bf16⟩
  | .local _ .vmem, ⟨49, _⟩ => ⟨S1x12x768x128, .bf16⟩
  | .local _ .vmem, ⟨50, _⟩ => ⟨S1x12x768x128, .bf16⟩
  | .local _ .vmem, ⟨51, _⟩ => ⟨S1x12x768x128, .bf16⟩
  | .local _ .vmem, ⟨52, _⟩ => ⟨S1x768x768, .bf16⟩
  | .local _ .vmem, ⟨53, _⟩ => ⟨S1x768x768, .bf16⟩
  | .local _ .vmem, ⟨54, _⟩ => ⟨S1x768x768, .f32⟩
  | .local _ .vmem, ⟨55, _⟩ => ⟨S1x768x768, .f32⟩
  | .local _ .vmem, ⟨56, _⟩ => ⟨S1x768x128, .f32⟩
  | .local _ .vmem, ⟨57, _⟩ => ⟨S1x768x128, .f32⟩
  | .local _ .vmem, ⟨58, _⟩ => ⟨S1x768x1024, .bf16⟩
  | .local _ .vmem, ⟨59, _⟩ => ⟨S1x768x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_cst_12 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_13 : Ref sig .tc := ⟨.hbm, 120, rfl⟩
abbrev main_v84 : Ref sig .tc := ⟨.hbm, 121, rfl⟩
abbrev main_cst_14 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_17 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106_0 : Ref sig .tc := ⟨.hbm, 147, rfl⟩
abbrev main_v106_1 : Ref sig .tc := ⟨.hbm, 148, rfl⟩
abbrev main_v106_2 : Ref sig .tc := ⟨.hbm, 149, rfl⟩
abbrev main_v106_3 : Ref sig .tc := ⟨.hbm, 150, rfl⟩
abbrev main_v106_4 : Ref sig .tc := ⟨.hbm, 151, rfl⟩
abbrev main_v106_5 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_stg31_0 : Ref sig .tc := ⟨.vmem, 47, rfl⟩
abbrev cc0_stg32_0 : Ref sig .tc := ⟨.vmem, 48, rfl⟩
abbrev cc0_stg32_1 : Ref sig .tc := ⟨.vmem, 49, rfl⟩
abbrev cc0_stg33_0 : Ref sig .tc := ⟨.vmem, 50, rfl⟩
abbrev cc0_stg33_1 : Ref sig .tc := ⟨.vmem, 51, rfl⟩
abbrev cc0_stg34_0 : Ref sig .tc := ⟨.vmem, 52, rfl⟩
abbrev cc0_stg34_1 : Ref sig .tc := ⟨.vmem, 53, rfl⟩
abbrev cc0_stg35_0 : Ref sig .tc := ⟨.vmem, 54, rfl⟩
abbrev cc0_stg35_1 : Ref sig .tc := ⟨.vmem, 55, rfl⟩
abbrev cc0_stg36_0 : Ref sig .tc := ⟨.vmem, 56, rfl⟩
abbrev cc0_stg36_1 : Ref sig .tc := ⟨.vmem, 57, rfl⟩
abbrev cc0_stg37_0 : Ref sig .tc := ⟨.vmem, 58, rfl⟩
abbrev cc0_stg37_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46
abbrev cc0_sem31_0 : DmaSem sig := 47
abbrev cc0_sem32_0 : DmaSem sig := 48
abbrev cc0_sem32_1 : DmaSem sig := 49
abbrev cc0_sem33_0 : DmaSem sig := 50
abbrev cc0_sem33_1 : DmaSem sig := 51
abbrev cc0_sem34_0 : DmaSem sig := 52
abbrev cc0_sem34_1 : DmaSem sig := 53
abbrev cc0_sem35_0 : DmaSem sig := 54
abbrev cc0_sem35_1 : DmaSem sig := 55
abbrev cc0_sem36_0 : DmaSem sig := 56
abbrev cc0_sem36_1 : DmaSem sig := 57
abbrev cc0_sem37_0 : DmaSem sig := 58
abbrev cc0_sem37_1 : DmaSem sig := 59

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c7_i32 : BitVec 32 := 7#32
  let v2 : BitVec 32 := Scalar.minsi v1 c7_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c7_i32 : BitVec 32 := 7#32
  let v2 : BitVec 32 := Scalar.minsi v1 c7_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c7_i32 : BitVec 32 := 7#32
  let v2 : BitVec 32 := Scalar.minsi v1 c7_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c32_i32 : BitVec 32 := 32#32
  let v2 : BitVec 32 := Scalar.muli v1 c32_i32
  let c1_i32 : BitVec 32 := 1#32
  let v3 : BitVec 32 := Scalar.subi v2 c1_i32
  let c0_i32_0 : BitVec 32 := 0#32
  let c255_i32 : BitVec 32 := 255#32
  let v4 : BitVec 32 := Scalar.maxsi c0_i32_0 v3
  let v5 : BitVec 32 := Scalar.minsi c255_i32 v4
  let c0_i32_1 : BitVec 32 := 0#32
  let c0_i32_2 : BitVec 32 := 0#32
  ![arg0.toNat, v5.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c32_i32 : BitVec 32 := 32#32
  let v2 : BitVec 32 := Scalar.muli v1 c32_i32
  let c1_i32_0 : BitVec 32 := 1#32
  let v3 : BitVec 32 := Scalar.subi v2 c1_i32_0
  let c0_i32 : BitVec 32 := 0#32
  let c255_i32 : BitVec 32 := 255#32
  let v4 : BitVec 32 := Scalar.maxsi c0_i32 v3
  let v5 : BitVec 32 := Scalar.minsi c255_i32 v4
  let c0_i32_1 : BitVec 32 := 0#32
  let c0_i32_2 : BitVec 32 := 0#32
  ![arg0.toNat, v5.toNat, c0_i32_1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let c255_i32 : BitVec 32 := 255#32
  let v4 : BitVec 32 := Scalar.maxsi c0_i32 v3
  let v5 : BitVec 32 := Scalar.minsi c255_i32 v4
  let c0_i32_0 : BitVec 32 := 0#32
  let c0_i32_1 : BitVec 32 := 0#32
  ![arg0.toNat, v5.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi v0 c0_i32
  let c1_i32 : BitVec 32 := 1#32
  let v2 : BitVec 32 := Scalar.addi v1 c1_i32
  let c32_i32 : BitVec 32 := 32#32
  let v3 : BitVec 32 := Scalar.muli v2 c32_i32
  let c0_i32_0 : BitVec 32 := 0#32
  let c255_i32 : BitVec 32 := 255#32
  let v4 : BitVec 32 := Scalar.maxsi c0_i32_0 v3
  let v5 : BitVec 32 := Scalar.minsi c255_i32 v4
  let c0_i32_1 : BitVec 32 := 0#32
  let c0_i32_2 : BitVec 32 := 0#32
  ![arg0.toNat, v5.toNat, c0_i32_1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.addi v0 c1_i32
  let c1_i32_0 : BitVec 32 := 1#32
  let v2 : BitVec 32 := Scalar.addi v1 c1_i32_0
  let c32_i32 : BitVec 32 := 32#32
  let v3 : BitVec 32 := Scalar.muli v2 c32_i32
  let c0_i32 : BitVec 32 := 0#32
  let c255_i32 : BitVec 32 := 255#32
  let v4 : BitVec 32 := Scalar.maxsi c0_i32 v3
  let v5 : BitVec 32 := Scalar.minsi c255_i32 v4
  let c0_i32_1 : BitVec 32 := 0#32
  let c0_i32_2 : BitVec 32 := 0#32
  ![arg0.toNat, v5.toNat, c0_i32_1.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c2_i32 : BitVec 32 := 2#32
  let v1 : BitVec 32 := Scalar.addi v0 c2_i32
  let c1_i32 : BitVec 32 := 1#32
  let v2 : BitVec 32 := Scalar.addi v1 c1_i32
  let c32_i32 : BitVec 32 := 32#32
  let v3 : BitVec 32 := Scalar.muli v2 c32_i32
  let c0_i32 : BitVec 32 := 0#32
  let c255_i32 : BitVec 32 := 255#32
  let v4 : BitVec 32 := Scalar.maxsi c0_i32 v3
  let v5 : BitVec 32 := Scalar.minsi c255_i32 v4
  let c0_i32_0 : BitVec 32 := 0#32
  let c0_i32_1 : BitVec 32 := 0#32
  ![arg0.toNat, v5.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_31 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_33 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_34 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_35 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_36 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_37 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x3328 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S384x768 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x768 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S384x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S8x768 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 2 → Memref sig .tc .vmem S768x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![false, true]

abbrev stage0_28 : Fin 2 → Memref sig .tc .vmem S768x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![false, true]

abbrev stage0_29 : Fin 2 → Memref sig .tc .vmem S768x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![false, true]

abbrev stage0_30 : Fin 2 → Memref sig .tc .vmem S768x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![false, true]

abbrev stage0_31 : Fin 1 → Memref sig .tc .vmem S384x384 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 2 → Memref sig .tc .vmem S1x12x768x128 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x12x768x128 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x768x768 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x768x768 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]

abbrev stage0_36 : Fin 2 → Memref sig .tc .vmem S1x768x128 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, true]

abbrev stage0_37 : Fin 2 → Memref sig .tc .vmem S1x768x1024 .bf16 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true, true]
-- ==== Reference3Ideal.lean ====
abbrev S16x2048x1024 : Shape := ⟨3, ![16, 2048, 1024]⟩
abbrev S16x256x1024 : Shape := ⟨3, ![16, 256, 1024]⟩
abbrev S16x1x1024 : Shape := ⟨3, ![16, 1, 1024]⟩
abbrev S1x1024 : Shape := ⟨2, ![1, 1024]⟩
abbrev S1024x3120 : Shape := ⟨2, ![1024, 3120]⟩
abbrev S1024 : Shape := ⟨1, ![1024]⟩
abbrev S384 : Shape := ⟨1, ![384]⟩
abbrev S384x576 : Shape := ⟨2, ![384, 576]⟩
abbrev S256 : Shape := ⟨1, ![256]⟩
abbrev S256x768 : Shape := ⟨2, ![256, 768]⟩
abbrev S64 : Shape := ⟨1, ![64]⟩
abbrev S5x768 : Shape := ⟨2, ![5, 768]⟩
abbrev S2x4 : Shape := ⟨2, ![2, 4]⟩
abbrev S2048x2x8 : Shape := ⟨3, ![2048, 2, 8]⟩
abbrev S2048x2x16 : Shape := ⟨3, ![2048, 2, 16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S16x2304x1024 : Shape := ⟨3, ![16, 2304, 1024]⟩
abbrev S1024x256 : Shape := ⟨2, ![1024, 256]⟩
abbrev S16x2304x256 : Shape := ⟨3, ![16, 2304, 256]⟩
abbrev S16x2304 : Shape := ⟨2, ![16, 2304]⟩
abbrev S16x2304x1 : Shape := ⟨3, ![16, 2304, 1]⟩
abbrev S1x1x256 : Shape := ⟨3, ![1, 1, 256]⟩
abbrev S16x2304x768 : Shape := ⟨3, ![16, 2304, 768]⟩
abbrev S16x2304x6x128 : Shape := ⟨4, ![16, 2304, 6, 128]⟩
abbrev S16x2304x6x64 : Shape := ⟨4, ![16, 2304, 6, 64]⟩
abbrev S16x2304x384 : Shape := ⟨3, ![16, 2304, 384]⟩
abbrev S1024x128 : Shape := ⟨2, ![1024, 128]⟩
abbrev S16x2304x128 : Shape := ⟨3, ![16, 2304, 128]⟩
abbrev S16x2304x2x1x64 : Shape := ⟨5, ![16, 2304, 2, 1, 64]⟩
abbrev S16x2304x2x3x64 : Shape := ⟨5, ![16, 2304, 2, 3, 64]⟩
abbrev S16x768x2304 : Shape := ⟨3, ![16, 768, 2304]⟩
abbrev S1024x1024 : Shape := ⟨2, ![1024, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x1x1024, .f32⟩
  | .hbm, ⟨3, _⟩ => ⟨S16x1x1024, .f32⟩
  | .hbm, ⟨4, _⟩ => ⟨S1x1024, .f32⟩
  | .hbm, ⟨5, _⟩ => ⟨S1x1024, .f32⟩
  | .hbm, ⟨6, _⟩ => ⟨S1024x3120, .f32⟩
  | .hbm, ⟨7, _⟩ => ⟨S1024, .f32⟩
  | .hbm, ⟨8, _⟩ => ⟨S384, .f32⟩
  | .hbm, ⟨9, _⟩ => ⟨S384x576, .f32⟩
  | .hbm, ⟨10, _⟩ => ⟨S256, .f32⟩
  | .hbm, ⟨11, _⟩ => ⟨S256x768, .f32⟩
  | .hbm, ⟨12, _⟩ => ⟨S64, .f32⟩
  | .hbm, ⟨13, _⟩ => ⟨S64, .f32⟩
  | .hbm, ⟨14, _⟩ => ⟨S5x768, .f32⟩
  | .hbm, ⟨15, _⟩ => ⟨S2x4, .f32⟩
  | .hbm, ⟨16, _⟩ => ⟨S2x4, .f32⟩
  | .hbm, ⟨17, _⟩ => ⟨S2048x2x8, .f32⟩
  | .hbm, ⟨18, _⟩ => ⟨S2048x2x8, .f32⟩
  | .hbm, ⟨19, _⟩ => ⟨S2048x2x16, .f32⟩
  | .hbm, ⟨20, _⟩ => ⟨S2048x2x16, .f32⟩
  | .hbm, ⟨21, _⟩ => ⟨S16x2048x1024, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x1x1024, .f32⟩
  | .hbm, ⟨39, _⟩ => ⟨S16x1x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x256x1024, .f32⟩
  | .hbm, ⟨45, _⟩ => ⟨S_, .f32⟩
  | .hbm, ⟨46, _⟩ => ⟨S16x256, .f32⟩
  | .hbm, ⟨47, _⟩ => ⟨S16x256x1, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S_, .f32⟩
  | .hbm, ⟨52, _⟩ => ⟨S16x256x1, .f32⟩
  | .hbm, ⟨53, _⟩ => ⟨S16x256x1, .f32⟩
  | .hbm, ⟨54, _⟩ => ⟨S16x256x1, .f32⟩
  | .hbm, ⟨55, _⟩ => ⟨S16x256x1024, .f32⟩
  | .hbm, ⟨56, _⟩ => ⟨S16x256x1024, .f32⟩
  | .hbm, ⟨57, _⟩ => ⟨S1x1x1024, .f32⟩
  | .hbm, ⟨58, _⟩ => ⟨S16x256x1024, .f32⟩
  | .hbm, ⟨59, _⟩ => ⟨S16x256x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1x1024, .f32⟩
  | .hbm, ⟨64, _⟩ => ⟨S16x256x1024, .f32⟩
  | .hbm, ⟨65, _⟩ => ⟨S16x256x1024, .f32⟩
  | .hbm, ⟨66, _⟩ => ⟨S1x1x1024, .f32⟩
  | .hbm, ⟨67, _⟩ => ⟨S16x256x1024, .f32⟩
  | .hbm, ⟨68, _⟩ => ⟨S16x256x1024, .f32⟩
  | .hbm, ⟨69, _⟩ => ⟨S16x2304x1024, .f32⟩
  | .hbm, ⟨70, _⟩ => ⟨S1024x256, .f32⟩
  | .hbm, ⟨71, _⟩ => ⟨S16x2304x256, .f32⟩
  | .hbm, ⟨72, _⟩ => ⟨S16x2304x256, .f32⟩
  | .hbm, ⟨73, _⟩ => ⟨S_, .f32⟩
  | .hbm, ⟨74, _⟩ => ⟨S16x2304, .f32⟩
  | .hbm, ⟨75, _⟩ => ⟨S16x2304x1, .f32⟩
  | .hbm, ⟨76, _⟩ => ⟨S_, .f32⟩
  | .hbm, ⟨77, _⟩ => ⟨S16x2304x1, .f32⟩
  | .hbm, ⟨78, _⟩ => ⟨S16x2304x1, .f32⟩
  | .hbm, ⟨79, _⟩ => ⟨S_, .f32⟩
  | .hbm, ⟨80, _⟩ => ⟨S16x2304x1, .f32⟩
  | .hbm, ⟨81, _⟩ => ⟨S16x2304x1, .f32⟩
  | .hbm, ⟨82, _⟩ => ⟨S16x2304x1, .f32⟩
  | .hbm, ⟨83, _⟩ => ⟨S16x2304x256, .f32⟩
  | .hbm, ⟨84, _⟩ => ⟨S16x2304x256, .f32⟩
  | .hbm, ⟨85, _⟩ => ⟨S1x1x256, .f32⟩
  | .hbm, ⟨86, _⟩ => ⟨S16x2304x256, .f32⟩
  | .hbm, ⟨87, _⟩ => ⟨S16x2304x256, .f32⟩
  | .hbm, ⟨88, _⟩ => ⟨S16x2304x768, .f32⟩
  | .hbm, ⟨89, _⟩ => ⟨S16x2304x6x128, .f32⟩
  | .hbm, ⟨90, _⟩ => ⟨S16x2304x6x64, .f32⟩
  | .hbm, ⟨91, _⟩ => ⟨S16x2304x384, .f32⟩
  | .hbm, ⟨92, _⟩ => ⟨S1024x128, .f32⟩
  | .hbm, ⟨93, _⟩ => ⟨S16x2304x128, .f32⟩
  | .hbm, ⟨94, _⟩ => ⟨S16x2304x2x1x64, .f32⟩
  | .hbm, ⟨95, _⟩ => ⟨S16x2304x2x3x64, .f32⟩
  | .hbm, ⟨96, _⟩ => ⟨S16x2304x384, .f32⟩
  | .hbm, ⟨97, _⟩ => ⟨S16x2304x768, .f32⟩
  | .hbm, ⟨98, _⟩ => ⟨S16x768x2304, .f32⟩
  | .hbm, ⟨99, _⟩ => ⟨S16x768x2304, .bf16⟩
  | .hbm, ⟨100, _⟩ => ⟨S1024x1024, .f32⟩
  | .hbm, ⟨101, _⟩ => ⟨S16x2304x1024, .f32⟩
  | .hbm, ⟨102, _⟩ => ⟨S16x2304x1024, .f32⟩
  | .hbm, ⟨103, _⟩ => ⟨S16x2304x1024, .f32⟩
  | .hbm, ⟨104, _⟩ => ⟨S_, .f32⟩
  | .hbm, ⟨105, _⟩ => ⟨S16x2304x1024, .f32⟩
  | .hbm, ⟨106, _⟩ => ⟨S16x2304x1024, .f32⟩
  | .hbm, ⟨107, _⟩ => ⟨S_, .f32⟩
  | .hbm, ⟨108, _⟩ => ⟨S16x2304x1024, .f32⟩
  | .hbm, ⟨109, _⟩ => ⟨S16x2304x1024, .f32⟩
  | .hbm, ⟨110, _⟩ => ⟨S16x2304x1024, .f32⟩
  | .hbm, ⟨111, _⟩ => ⟨S16x2304x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Proof.Att.Offsets.lean ====
/-
  Where trip `k` of the kernel's counted loop reads and writes, in closed form. The loop works through 48 items, one
  query tile of 256 rows of one head each: item `n` is tile `n / 12` of head `n % 12`. Trip `k` finishes the items
  `2 k` and `2 k + 1` and starts the items `2 k + 2` and `2 k + 3`.
-/
module

public import proofs.«01_k».proof.Proof.Gen.KernelIdeal.Loops
public import Idealize.ShloMosaic.Lib.Tactic
public import Idealize.ShloMosaic.Lib.Ring

@[expose] public section

namespace Cert.KernelIdeal.Att

open Cert.KernelIdeal Idealize.ShloMosaic Idealize.ShloMosaic.Tactic

theorem off1_eq : ∀ k : Fin k0_t1_loop.trips, k0_off1 k = ![0, 64 * (2 * k.val % 12), 0] := by decide +kernel
theorem off2_eq : ∀ k : Fin k0_t1_loop.trips, k0_off2 k = ![0, 2 * k.val / 12, 64 * (2 * k.val % 12), 0] := by decide +kernel
theorem off3_eq : ∀ k : Fin k0_t1_loop.trips, k0_off3 k = ![0, (2 * k.val + 2) % 12, 256 * ((2 * k.val + 2) / 12), 0] := by decide +kernel
theorem off4_eq : ∀ k : Fin k0_t1_loop.trips, k0_off4 k = ![0, (2 * k.val + 2) % 12, 0, 0] := by decide +kernel
theorem off5_eq : ∀ k : Fin k0_t1_loop.trips, k0_off5 k = ![0, (2 * k.val + 2) % 12, 1152, 0] := by decide +kernel
theorem off6_eq : ∀ k : Fin k0_t1_loop.trips, k0_off6 k = ![0, 64 * ((2 * k.val + 1) % 12), 0] := by decide +kernel
theorem off7_eq : ∀ k : Fin k0_t1_loop.trips, k0_off7 k = ![0, (2 * k.val + 1) / 12, 64 * ((2 * k.val + 1) % 12), 0] := by decide +kernel
theorem off8_eq : ∀ k : Fin k0_t1_loop.trips, k0_off8 k = ![0, (2 * k.val + 3) % 12, 256 * ((2 * k.val + 3) / 12), 0] := by decide +kernel
theorem off9_eq : ∀ k : Fin k0_t1_loop.trips, k0_off9 k = ![0, (2 * k.val + 3) % 12, 0, 0] := by decide +kernel
theorem off10_eq : ∀ k : Fin k0_t1_loop.trips, k0_off10 k = ![0, (2 * k.val + 3) % 12, 1152, 0] := by decide +kernel

instance (k : Fin k0_t1_loop.trips) : ClosedOff (k0_off1 k) := ⟨_, off1_eq k⟩
instance (k : Fin k0_t1_loop.trips) : ClosedOff (k0_off2 k) := ⟨_, off2_eq k⟩
instance (k : Fin k0_t1_loop.trips) : ClosedOff (k0_off3 k) := ⟨_, off3_eq k⟩
instance (k : Fin k0_t1_loop.trips) : ClosedOff (k0_off4 k) := ⟨_, off4_eq k⟩
instance (k : Fin k0_t1_loop.trips) : ClosedOff (k0_off5 k) := ⟨_, off5_eq k⟩
instance (k : Fin k0_t1_loop.trips) : ClosedOff (k0_off6 k) := ⟨_, off6_eq k⟩
instance (k : Fin k0_t1_loop.trips) : ClosedOff (k0_off7 k) := ⟨_, off7_eq k⟩
instance (k : Fin k0_t1_loop.trips) : ClosedOff (k0_off8 k) := ⟨_, off8_eq k⟩
instance (k : Fin k0_t1_loop.trips) : ClosedOff (k0_off9 k) := ⟨_, off9_eq k⟩
instance (k : Fin k0_t1_loop.trips) : ClosedOff (k0_off10 k) := ⟨_, off10_eq k⟩

end Cert.KernelIdeal.Att
-- ==== Proof.Att.Vals.lean ====
/-
  What the kernel holds, as functions of the blocks it reads. A grid point works through 48 items: item `n` is the query
  tile `n / 12` (256 rows of the point's 1024) of head `n % 12`. For one item the kernel computes the scores (keys down the
  rows, queries across), their maximum over the keys, the powers of two of the scores less that maximum, and from those and
  the head's values the item's part of the output block. Everything here is stated for any float type.
-/
module

public import proofs.«01_k».proof.Proof.Gen.KernelIdeal.Loops
public import proofs.«01_k».proof.Proof.Gen.KernelIdeal.Skeleton
public import proofs.«01_k».proof.Proof.Att.Offsets
public import Idealize.ShloMosaic.Lib.Pipeline.FrameBody
public import Idealize.ShloMosaic.Lib.Pointwise.Index

@[expose] public section

set_option maxRecDepth 16384

noncomputable section

namespace Cert.KernelIdeal.Att

open Cert.KernelIdeal Cert.KernelIdeal.Gen
open Idealize.ShloMosaic

variable {F : FTy → Type} [FloatOps F]

/-! ## One item's operands -/

/-- The queries of item `n`: 256 rows of one head. -/
def qTile (Q : Vec F S1x12x1024x128 .bf16) (n : ℕ) : Vec F S1x1x256x128 .bf16 := fun x =>
  Q (ix4 0 ⟨n % 12, Nat.mod_lt _ (by decide)⟩ ⟨256 * (n / 12 % 4) + (x 2).val, by have : (x 2).val < 256 := (x 2).isLt; omega⟩ (x 3))

/-- The first half of the keys of item `n`'s head. -/
def kLo (K : Vec F S1x12x2304x128 .bf16) (n : ℕ) : Vec F S1x1x1152x128 .bf16 := fun x =>
  K (ix4 0 ⟨n % 12, Nat.mod_lt _ (by decide)⟩ ⟨(x 2).val, by have : (x 2).val < 1152 := (x 2).isLt; omega⟩ (x 3))

/-- The second half of the keys of item `n`'s head. -/
def kHi (K : Vec F S1x12x2304x128 .bf16) (n : ℕ) : Vec F S1x1x1152x128 .bf16 := fun x =>
  K (ix4 0 ⟨n % 12, Nat.mod_lt _ (by decide)⟩ ⟨1152 + (x 2).val, by have : (x 2).val < 1152 := (x 2).isLt; omega⟩ (x 3))

/-- The values of item `n`'s head, one row per channel. -/
def vRows (V : Vec F S1x768x2304 .bf16) (n : ℕ) : Vec F S1x64x2304 .bf16 := fun x =>
  V (ix3 0 ⟨64 * (n % 12) + (x 1).val, by have : (x 1).val < 64 := (x 1).isLt; omega⟩ (x 2))

/-! ## The two halves of a buffer with one row per key -/

/-- The array whose rows below 1152 are `a`'s and whose others are `b`'s. -/
def glue {Val : Type} (a b : S1152x256.Idx → Val) : S2304x256.Idx → Val := fun y =>
  if h : (y 0).val < 1152 then a (ix2 ⟨(y 0).val, h⟩ (y 1))
  else b (ix2 ⟨(y 0).val - 1152, by have : (y 0).val < 2304 := (y 0).isLt; omega⟩ (y 1))

/-! ## One item's intermediate results -/

/-- Item `n`'s scores against the first half of the keys, -/
def sLo (Q : Vec F S1x12x1024x128 .bf16) (K : Vec F S1x12x2304x128 .bf16) (n : ℕ) : Vec F S1152x256 .f32 := k0_pay6 (qTile Q n) (kLo K n)
/-- and against the second. -/
def sHi (Q : Vec F S1x12x1024x128 .bf16) (K : Vec F S1x12x2304x128 .bf16) (n : ℕ) : Vec F S1152x256 .f32 := k0_pay8 (qTile Q n) (kHi K n)
/-- The maximum over all keys of item `n`'s scores, one per query. -/
def mx (Q : Vec F S1x12x1024x128 .bf16) (K : Vec F S1x12x2304x128 .bf16) (n : ℕ) : FVec F S1x256 .f32 := k0_pay9 (qTile Q n) (kLo K n) (kHi K n)
/-- Item `n`'s unnormalised probabilities: powers of two of the scores less their maximum. -/
def probs (Q : Vec F S1x12x1024x128 .bf16) (K : Vec F S1x12x2304x128 .bf16) (n : ℕ) : Vec F S2304x256 .bf16 :=
  glue (k0_pay10 (mx Q K n) (sLo Q K n)) (k0_pay10 (mx Q K n) (sHi Q K n))
/-- Item `n`'s part of the output block. -/
def outItem (Q : Vec F S1x12x1024x128 .bf16) (K : Vec F S1x12x2304x128 .bf16) (V : Vec F S1x768x2304 .bf16) (n : ℕ) : FVec F S1x1x64x256 .bf16 :=
  k0_pay1 k0_pay23 (vRows V n) (probs Q K n)
/-- The output block: row `r` of tile `t` belongs to item `12 t + r / 64`. -/
def outBlock (Q : Vec F S1x12x1024x128 .bf16) (K : Vec F S1x12x2304x128 .bf16) (V : Vec F S1x768x2304 .bf16) : Vec F S1x4x768x256 .bf16 := fun y =>
  outItem Q K V (12 * (y 1).val + (y 2).val / 64) (ix4 0 0 ⟨(y 2).val % 64, Nat.mod_lt _ (by decide)⟩ (y 3))

/-! ## What the loads read -/

/-- A load of 256 query rows at item `n`'s place reads item `n`'s queries. -/
theorem ld_qTile (Q : Vec F S1x12x1024x128 .bf16) (n : ℕ) (hn : n < 48) (off : Fin 4 → ℕ) (hoff : off = ![0, n % 12, 256 * (n / 12), 0])
    (inb : ∀ a, off a + S1x1x256x128.size a ≤ S1x12x1024x128.size a) :
    View.ld Q (Rect.unit (s := S1x12x1024x128) off S1x1x256x128.size inb) = qTile Q n := by
  subst hoff; funext x; unfold qTile
  refine congrArg Q (funext fun a => Fin.ext ?_)
  have h0 : (x 0).val < 1 := (x 0).isLt
  have h1 : (x 1).val < 1 := (x 1).isLt
  fin_cases a
  · show 0 + 1 * (x 0).val = 0; omega
  · show n % 12 + 1 * (x 1).val = n % 12; omega
  · show 256 * (n / 12) + 1 * (x 2).val = 256 * (n / 12 % 4) + (x 2).val; omega
  · show 0 + 1 * (x 3).val = (x 3).val; omega

/-- A load of the head's first 1152 keys reads them, -/
theorem ld_kLo (K : Vec F S1x12x2304x128 .bf16) (n : ℕ) (off : Fin 4 → ℕ) (hoff : off = ![0, n % 12, 0, 0])
    (inb : ∀ a, off a + S1x1x1152x128.size a ≤ S1x12x2304x128.size a) :
    View.ld K (Rect.unit (s := S1x12x2304x128) off S1x1x1152x128.size inb) = kLo K n := by
  subst hoff; funext x; unfold kLo
  refine congrArg K (funext fun a => Fin.ext ?_)
  have h0 : (x 0).val < 1 := (x 0).isLt
  have h1 : (x 1).val < 1 := (x 1).isLt
  fin_cases a
  · show 0 + 1 * (x 0).val = 0; omega
  · show n % 12 + 1 * (x 1).val = n % 12; omega
  · show 0 + 1 * (x 2).val = (x 2).val; omega
  · show 0 + 1 * (x 3).val = (x 3).val; omega

/-- and one of the last 1152 those. -/
theorem ld_kHi (K : Vec F S1x12x2304x128 .bf16) (n : ℕ) (off : Fin 4 → ℕ) (hoff : off = ![0, n % 12, 1152, 0])
    (inb : ∀ a, off a + S1x1x1152x128.size a ≤ S1x12x2304x128.size a) :
    View.ld K (Rect.unit (s := S1x12x2304x128) off S1x1x1152x128.size inb) = kHi K n := by
  subst hoff; funext x; unfold kHi
  refine congrArg K (funext fun a => Fin.ext ?_)
  have h0 : (x 0).val < 1 := (x 0).isLt
  have h1 : (x 1).val < 1 := (x 1).isLt
  fin_cases a
  · show 0 + 1 * (x 0).val = 0; omega
  · show n % 12 + 1 * (x 1).val = n % 12; omega
  · show 1152 + 1 * (x 2).val = 1152 + (x 2).val; omega
  · show 0 + 1 * (x 3).val = (x 3).val; omega

/-- A load of 64 rows of values at item `n`'s head reads the head's values. -/
theorem ld_vRows (V : Vec F S1x768x2304 .bf16) (n : ℕ) (off : Fin 3 → ℕ) (hoff : off = ![0, 64 * (n % 12), 0])
    (inb : ∀ a, off a + S1x64x2304.size a ≤ S1x768x2304.size a) :
    View.ld V (Rect.unit (s := S1x768x2304) off S1x64x2304.size inb) = vRows V n := by
  subst hoff; funext x; unfold vRows
  refine congrArg V (funext fun a => Fin.ext ?_)
  have h0 : (x 0).val < 1 := (x 0).isLt
  fin_cases a
  · show 0 + 1 * (x 0).val = 0; omega
  · show 64 * (n % 12) + 1 * (x 1).val = 64 * (n % 12) + (x 1).val; omega
  · show 0 + 1 * (x 2).val = (x 2).val; omega

/-- A load of the first half of two glued arrays reads the first, -/
theorem ld_glue_lo {e : EltTy} (a b : Vec F S1152x256 e) (inb : ∀ d, (![0, 0] : Fin 2 → ℕ) d + S1152x256.size d ≤ S2304x256.size d) :
    View.ld (Val := Elt F) (glue a b) (Rect.unit (s := S2304x256) ![0, 0] S1152x256.size inb) = a := by
  funext x
  have h : (x 0).val < 1152 := (x 0).isLt
  have h0 : ((Rect.unit (s := S2304x256) ![0, 0] S1152x256.size inb).idx x 0).val = (x 0).val := by
    show 0 + 1 * (x 0).val = _; omega
  show glue a b _ = _
  unfold glue
  rw [dif_pos (by rw [h0]; exact h)]
  refine congrArg a (funext fun d => Fin.ext ?_)
  fin_cases d
  · exact h0
  · show 0 + 1 * (x 1).val = (x 1).val; omega

/-- one of the second half the second, -/
theorem ld_glue_hi {e : EltTy} (a b : Vec F S1152x256 e) (inb : ∀ d, (![1152, 0] : Fin 2 → ℕ) d + S1152x256.size d ≤ S2304x256.size d) :
    View.ld (Val := Elt F) (glue a b) (Rect.unit (s := S2304x256) ![1152, 0] S1152x256.size inb) = b := by
  funext x
  have h : (x 0).val < 1152 := (x 0).isLt
  have h0 : ((Rect.unit (s := S2304x256) ![1152, 0] S1152x256.size inb).idx x 0).val = 1152 + (x 0).val := by
    show 1152 + 1 * (x 0).val = _; omega
  show glue a b _ = _
  unfold glue
  rw [dif_neg (by rw [h0]; omega)]
  refine congrArg b (funext fun d => Fin.ext ?_)
  fin_cases d
  · show ((Rect.unit (s := S2304x256) ![1152, 0] S1152x256.size inb).idx x 0).val - 1152 = (x 0).val; rw [h0]; omega
  · show 0 + 1 * (x 1).val = (x 1).val; omega

/-- and one of everything both. -/
theorem ld_all {e : EltTy} (X : Vec F S2304x256 e) (inb : ∀ d, (![0, 0] : Fin 2 → ℕ) d + S2304x256.size d ≤ S2304x256.size d) :
    View.ld (Val := Elt F) X (Rect.unit (s := S2304x256) ![0, 0] S2304x256.size inb) = X := by
  funext x
  refine congrArg X (funext fun d => Fin.ext ?_)
  fin_cases d
  · show 0 + 1 * (x 0).val = (x 0).val; omega
  · show 0 + 1 * (x 1).val = (x 1).val; omega

/-- Two stores, one to each half, leave the two payloads glued, whatever the buffer held. -/
theorem read_writes_halves {κ : Kind} {sp : Space} {e : EltTy} (v : View sig κ sp S2304x256 e) (f : v.ty.Contents (Elt F)) (a b : Vec F S1152x256 e)
    (inbHi : ∀ d, (![1152, 0] : Fin 2 → ℕ) d + S1152x256.size d ≤ S2304x256.size d)
    (inbLo : ∀ d, (![0, 0] : Fin 2 → ℕ) d + S1152x256.size d ≤ S2304x256.size d) :
    v.read (Elt F) (v.writes (Elt F) f [⟨Rect.unit (s := S2304x256) ![1152, 0] S1152x256.size inbHi, b⟩,
      ⟨Rect.unit (s := S2304x256) ![0, 0] S1152x256.size inbLo, a⟩]) = glue a b := by
  funext y
  have hy0 : (y 0).val < 2304 := (y 0).isLt
  have hy1 : (y 1).val < 256 := (y 1).isLt
  refine View.read_writes_apply_of_pieces v f (glue a b) _ ?_ y ?_
  · intro p hp x
    rcases List.mem_cons.mp hp with rfl | hp
    · exact (congrFun (ld_glue_hi a b inbHi) x).symm
    · rcases List.mem_cons.mp hp with rfl | hp
      · exact (congrFun (ld_glue_lo a b inbLo) x).symm
      · exact absurd hp List.not_mem_nil
  · by_cases h : (y 0).val < 1152
    · refine ⟨_, List.mem_cons_of_mem _ List.mem_cons_self, (Rect.mem_set_unit (inb := inbLo)).mpr fun d => ?_⟩
      fin_cases d
      · exact ⟨Nat.zero_le _, by show (y 0).val < 0 + 1152; omega⟩
      · exact ⟨Nat.zero_le _, by show (y 1).val < 0 + 256; omega⟩
    · refine ⟨_, List.mem_cons_self, (Rect.mem_set_unit (inb := inbHi)).mpr fun d => ?_⟩
      fin_cases d
      · exact ⟨by show 1152 ≤ (y 0).val; omega, by show (y 0).val < 1152 + 1152; omega⟩
      · exact ⟨Nat.zero_le _, by show (y 1).val < 0 + 256; omega⟩

/-! ## The output block, filled item by item -/

/-- The places of the output block that belong to items before `n` hold the result. -/
def Done (Q : Vec F S1x12x1024x128 .bf16) (K : Vec F S1x12x2304x128 .bf16) (V : Vec F S1x768x2304 .bf16) (n : ℕ) (O : Vec F S1x4x768x256 .bf16) : Prop :=
  ∀ y : S1x4x768x256.Idx, 12 * (y 1).val + (y 2).val / 64 < n → O y = outBlock Q K V y

/-- Item `n`'s store brings the filled items from `n` to `n + 1`. -/
theorem Done.store {κ : Kind} {sp : Space} {Q : Vec F S1x12x1024x128 .bf16} {K : Vec F S1x12x2304x128 .bf16} {V : Vec F S1x768x2304 .bf16}
    {n : ℕ} (v : View sig κ sp S1x4x768x256 .bf16) (f : v.ty.Contents (Elt F)) (L : List (View.Piece (Elt F) S1x4x768x256 .bf16))
    (h : Done Q K V n (v.read (Elt F) (v.writes (Elt F) f L)))
    (off : Fin 4 → ℕ) (hoff : off = ![0, n / 12, 64 * (n % 12), 0]) (inb : ∀ a, off a + S1x1x64x256.size a ≤ S1x4x768x256.size a)
    (w : FVec F S1x1x64x256 .bf16) (hw : w = outItem Q K V n) :
    Done Q K V (n + 1) (v.read (Elt F) (v.writes (Elt F) f (⟨Rect.unit (s := S1x4x768x256) off S1x1x64x256.size inb, w⟩ :: L))) := by
  subst hoff hw
  intro y hy
  have h0 : (y 0).val < 1 := (y 0).isLt
  have h1 : (y 1).val < 4 := (y 1).isLt
  have h2 : (y 2).val < 768 := (y 2).isLt
  have h3 : (y 3).val < 256 := (y 3).isLt
  by_cases hn : 12 * (y 1).val + (y 2).val / 64 < n
  · refine (View.read_writes_cons_miss v f _ L y fun hm => ?_).trans (h y hn)
    have hm := (Rect.mem_set_unit (inb := inb)).mp hm
    have m1 : n / 12 ≤ (y 1).val ∧ (y 1).val < n / 12 + 1 := hm 1
    have m2 : 64 * (n % 12) ≤ (y 2).val ∧ (y 2).val < 64 * (n % 12) + 64 := hm 2
    omega
  · have e1 : 12 * (y 1).val + (y 2).val / 64 = n := by omega
    refine (View.read_writes_cons_hit_of_coords v f _ _ L
      (ix4 (0 : Fin 1) (0 : Fin 1) (⟨(y 2).val % 64, Nat.mod_lt _ (by decide)⟩ : Fin 64) (y 3 : Fin 256)) y fun a => ?_).trans ?_
    · fin_cases a
      · show (y 0).val = 0 + 1 * 0; omega
      · show (y 1).val = n / 12 + 1 * 0; omega
      · show (y 2).val = 64 * (n % 12) + 1 * ((y 2).val % 64); omega
      · show (y 3).val = 0 + 1 * (y 3).val; omega
    · unfold outBlock; rw [e1]; rfl

/-- With all 48 items done the block is the whole result. -/
theorem Done.all {Q : Vec F S1x12x1024x128 .bf16} {K : Vec F S1x12x2304x128 .bf16} {V : Vec F S1x768x2304 .bf16}
    {O : Vec F S1x4x768x256 .bf16} (h : Done Q K V 48 O) : O = outBlock Q K V := funext fun y => by
  have h1 : (y 1).val < 4 := (y 1).isLt
  have h2 : (y 2).val < 768 := (y 2).isLt
  exact h y (by omega)

end Cert.KernelIdeal.Att
-- ==== Proof.Att.Softmax.lean ====
/-
  The mathematics of the kernel: a softmax taken in base two, its division after the product with the values, is the softmax
  of the scores times `log 2`, its division before. Both over the extended reals, the scores finite, the values anything.
-/
module

public import Idealize.ShloMosaic.PureOps.Ideal
public import Mathlib.Analysis.SpecialFunctions.Pow.Real

@[expose] public section

noncomputable section

namespace Cert.KernelIdeal.Att

open Idealize.ShloMosaic

variable {n : ℕ}

/-- The greatest of finitely many extended reals, `⊥` if there are none. -/
def top (s : Fin n → EReal) : EReal := Finset.fold max ⊥ s Finset.univ

/-- A bound that is attained is the greatest. -/
theorem top_eq (s : Fin n → EReal) (k₀ : Fin n) (h : ∀ k, s k ≤ s k₀) : top s = s k₀ :=
  le_antisymm (Finset.fold_max_le _ |>.2 ⟨bot_le, fun k _ => h k⟩) (Finset.le_fold_max _ |>.2 (Or.inr ⟨k₀, Finset.mem_univ _, le_rfl⟩))

/-- The greatest of a list is the greater of its two halves' greatest. -/
theorem top_halves {a b : ℕ} (s : Fin n → EReal) (lo : Fin a → EReal) (hi : Fin b → EReal) (hn : n = a + b)
    (hlo : ∀ (k : Fin a) (h : k.val < n), s ⟨k.val, h⟩ = lo k) (hhi : ∀ (k : Fin b) (h : a + k.val < n), s ⟨a + k.val, h⟩ = hi k) :
    max (top lo) (top hi) = top s := by
  refine le_antisymm (max_le ?_ ?_) ?_
  · refine Finset.fold_max_le _ |>.2 ⟨bot_le, fun k _ => Finset.le_fold_max _ |>.2 (Or.inr ⟨⟨k.val, by omega⟩, Finset.mem_univ _, ?_⟩)⟩
    rw [hlo]
  · refine Finset.fold_max_le _ |>.2 ⟨bot_le, fun k _ => Finset.le_fold_max _ |>.2 (Or.inr ⟨⟨a + k.val, by omega⟩, Finset.mem_univ _, ?_⟩)⟩
    rw [hhi]
  · refine Finset.fold_max_le _ |>.2 ⟨bot_le, fun k _ => ?_⟩
    rcases lt_or_ge k.val a with h | h
    · exact le_max_of_le_left (Finset.le_fold_max _ |>.2 (Or.inr ⟨⟨k.val, h⟩, Finset.mem_univ _, (hlo ⟨k.val, h⟩ k.isLt).le⟩))
    · refine le_max_of_le_right (Finset.le_fold_max _ |>.2 (Or.inr ⟨⟨k.val - a, by omega⟩, Finset.mem_univ _, ?_⟩))
      have e := hhi ⟨k.val - a, by omega⟩ (show a + (k.val - a) < n by omega)
      rw [← e]
      exact le_of_eq (congrArg s (Fin.ext (show k.val = a + (k.val - a) by omega)))

/-- A finite factor at least zero goes into a sum of extended reals. -/
theorem sum_mul_pos {ι : Type} (t : Finset ι) (f : ι → EReal) (c : EReal) (h0 : 0 ≤ c) (hc : c ≠ ⊤) : (∑ k ∈ t, f k) * c = ∑ k ∈ t, f k * c := by
  induction t using Finset.cons_induction with
  | empty => simp
  | cons a t ha ih => rw [Finset.sum_cons, Finset.sum_cons, EReal.right_distrib_of_nonneg_of_ne_top h0 hc, ih]

/-- The inclusion of the reals commutes with finite sums. -/
theorem coe_sum {ι : Type} (t : Finset ι) (f : ι → ℝ) : ((∑ k ∈ t, f k : ℝ) : EReal) = ∑ k ∈ t, (f k : EReal) :=
  by
  induction t using Finset.cons_induction with
  | empty => simp
  | cons a t ha ih => rw [Finset.sum_cons, Finset.sum_cons, EReal.coe_add, ih]

/-- What the kernel computes of a row's scores and one channel of the values, -/
def baseTwo (s v : Fin n → EReal) : EReal :=
  Ideal.div (∑ k, v k * Ideal.exp2 (s k - top s)) (∑ k, Ideal.exp2 (s k - top s))

/-- and what the reference does. -/
def softmax (s v : Fin n → EReal) : EReal :=
  ∑ k, v k * Ideal.div (Ideal.exp (s k - top s)) (∑ j, Ideal.exp (s j - top s))

/-- They agree: at finite scores, the reference's times `log 2`. -/
theorem baseTwo_eq (hn : 0 < n) (s v : Fin n → EReal) (hs : ∀ k, ∃ r : ℝ, s k = (r : EReal)) :
    baseTwo s v = softmax (fun k => s k * ((Real.log 2 : ℝ) : EReal)) v := by
  choose r hr using hs
  obtain rfl : s = fun k => (r k : EReal) := funext hr
  haveI : Nonempty (Fin n) := ⟨⟨0, hn⟩⟩
  obtain ⟨k₀, hk⟩ := Finite.exists_max r
  have l2 : 0 < Real.log 2 := Real.log_pos (by norm_num)
  have e1 : top (fun k => (r k : EReal)) = (r k₀ : EReal) := top_eq _ k₀ fun k => EReal.coe_le_coe_iff.2 (hk k)
  have e2 : top (fun k => (r k : EReal) * ((Real.log 2 : ℝ) : EReal)) = (r k₀ : EReal) * ((Real.log 2 : ℝ) : EReal) :=
    top_eq (fun k => (r k : EReal) * ((Real.log 2 : ℝ) : EReal)) k₀ fun k => by
      rw [← EReal.coe_mul, ← EReal.coe_mul]; exact EReal.coe_le_coe_iff.2 (mul_le_mul_of_nonneg_right (hk k) l2.le)
  have w1 : ∀ k, Ideal.exp2 ((r k : EReal) - (r k₀ : EReal)) = ((Real.exp ((r k - r k₀) * Real.log 2) : ℝ) : EReal) := fun k => by
    rw [← EReal.coe_sub]
    show ((Real.rpow 2 (r k - r k₀) : ℝ) : EReal) = _
    rw [show Real.rpow 2 (r k - r k₀) = (2 : ℝ) ^ (r k - r k₀) from rfl, Real.rpow_def_of_pos (by norm_num), mul_comm]
  have w2 : ∀ k, Ideal.exp ((r k : EReal) * ((Real.log 2 : ℝ) : EReal) - (r k₀ : EReal) * ((Real.log 2 : ℝ) : EReal))
      = ((Real.exp ((r k - r k₀) * Real.log 2) : ℝ) : EReal) := fun k => by
    rw [← EReal.coe_mul, ← EReal.coe_mul, ← EReal.coe_sub, sub_mul]; rfl
  unfold baseTwo softmax
  simp only [e1, e2, w1, w2]
  have key : ∀ w : Fin n → ℝ, (∀ k, 0 < w k) → Ideal.div (∑ k, v k * (w k : EReal)) (∑ k, (w k : EReal))
      = ∑ k, v k * Ideal.div (w k : EReal) (∑ j, (w j : EReal)) := fun w hw => by
    have hL : 0 < ∑ k, w k := Finset.sum_pos (fun k _ => hw k) Finset.univ_nonempty
    have eL : (∑ k, ((w k : ℝ) : EReal)) = ((∑ k, w k : ℝ) : EReal) := (coe_sum _ _).symm
    have hd : ∀ x, Ideal.div x ((∑ k, w k : ℝ) : EReal) = x * ((((∑ k, w k)⁻¹ : ℝ)) : EReal) := fun x => by
      unfold Ideal.div
      rw [if_neg (by exact_mod_cast hL.ne'), EReal.coe_inv]
    simp only [eL, hd]
    rw [sum_mul_pos _ _ _ (by exact_mod_cast (inv_pos.2 hL).le) (EReal.coe_ne_top _)]
    exact Finset.sum_congr rfl fun k _ => mul_assoc _ _ _
  exact key _ fun k => Real.exp_pos _

end Cert.KernelIdeal.Att
-- ==== Proof.Att.Read.lean ====
/-
  One item read over the extended reals, element by element.
-/
module

public import proofs.«01_k».proof.Proof.Att.Vals
public import Idealize.ShloMosaic.Lib.Pointwise
public import Idealize.ShloMosaic.Lib.IdealHost
public import proofs.«01_k».proof.Proof.Att.Softmax

@[expose] public section

set_option maxRecDepth 16384

noncomputable section

namespace Cert.KernelIdeal.Att

open Cert.KernelIdeal Cert.KernelIdeal.Gen
open Idealize.ShloMosaic

/-- The constant the maxima start from is `-∞`. -/
theorem negInf : Ideal.ofBits FTy.f32 0xFF800000#32 = ⊥ := by simp [Ideal.ofBits, Ideal.ieee]

/-! ## The operations -/

/-- The scores against a half of the keys: products of a key with a query. -/
theorem pay6_at (q : Vec Ideal S1x1x256x128 .bf16) (k : Vec Ideal S1x1x1152x128 .bf16) (i : Fin 1152) (j : Fin 256) :
    k0_pay6 q k (ix2 i j) = ∑ d : Fin 128, k (ix4 0 0 i d) * q (ix4 0 0 j d) := by
  pointwise [k0_pay6, k0_pay5, k0_pay4]

/-- The same against the other half. -/
theorem pay8_at (q : Vec Ideal S1x1x256x128 .bf16) (k : Vec Ideal S1x1x1152x128 .bf16) (i : Fin 1152) (j : Fin 256) :
    k0_pay8 q k (ix2 i j) = ∑ d : Fin 128, k (ix4 0 0 i d) * q (ix4 0 0 j d) := by
  pointwise [k0_pay8, k0_pay7, k0_pay4]

/-- A query's maximum is the greater of the maxima of its scores against the two halves. -/
theorem pay9_at (q : Vec Ideal S1x1x256x128 .bf16) (k k' : Vec Ideal S1x1x1152x128 .bf16) (j : Fin 256) :
    k0_pay9 q k k' (ix2 0 j) = max (top fun i : Fin 1152 => k0_pay6 q k (ix2 i j)) (top fun i : Fin 1152 => k0_pay8 q k' (ix2 i j)) := by
  pointwise [k0_pay9, k0_pay6, k0_pay8]
  unfold top
  rw [show Ideal.ofBits FTy.f32 4286578688#32 = ⊥ from negInf]

/-- A weight is two to the power of the score less the maximum. -/
theorem pay10_at (m : Vec Ideal S1x256 .f32) (s : Vec Ideal S1152x256 .f32) (i : Fin 1152) (j : Fin 256) :
    k0_pay10 m s (ix2 i j) = Ideal.exp2 (s (ix2 i j) - m (ix2 0 j)) := by
  pointwise [k0_pay10]
  rfl

/-- An output is the weighted sum of the values divided by the sum of the weights. -/
theorem pay1_at (v : Vec Ideal S1x64x2304 .bf16) (p : Vec Ideal S2304x256 .bf16) (e : Fin 64) (j : Fin 256) :
    k0_pay1 (k0_pay23 (F := Ideal)) v p (ix4 0 0 e j) = Ideal.div (∑ k : Fin 2304, v (ix3 0 e k) * p (ix2 k j)) (∑ k : Fin 2304, p (ix2 k j)) := by
  pointwise [k0_pay1, k0_pay23]

/-! ## One item -/

/-- The score of query row `r` with key `k` of head `h`. -/
def score (Q : Vec Ideal S1x12x1024x128 .bf16) (K : Vec Ideal S1x12x2304x128 .bf16) (h : Fin 12) (r : Fin 1024) (k : Fin 2304) : EReal :=
  ∑ d : Fin 128, K (ix4 0 h k d) * Q (ix4 0 h r d)

variable (Q : Vec Ideal S1x12x1024x128 .bf16) (K : Vec Ideal S1x12x2304x128 .bf16) (V : Vec Ideal S1x768x2304 .bf16)

/-- Item `n`'s head, -/
abbrev headOf (n : ℕ) : Fin 12 := ⟨n % 12, Nat.mod_lt _ (by decide)⟩
/-- and the row its `j`-th query is. -/
abbrev rowOf (n : ℕ) (j : Fin 256) : Fin 1024 := ⟨256 * (n / 12 % 4) + j.val, by omega⟩

theorem sLo_at (n : ℕ) (i : Fin 1152) (j : Fin 256) (h : i.val < 2304) : sLo Q K n (ix2 i j) = score Q K (headOf n) (rowOf n j) ⟨i.val, h⟩ := by
  unfold sLo; rw [pay6_at]; rfl

theorem sHi_at (n : ℕ) (i : Fin 1152) (j : Fin 256) (h : 1152 + i.val < 2304) : sHi Q K n (ix2 i j) = score Q K (headOf n) (rowOf n j) ⟨1152 + i.val, h⟩ := by
  unfold sHi; rw [pay8_at]; rfl

/-- Item `n`'s maxima are the greatest of the scores over all keys. -/
theorem mx_at (n : ℕ) (j : Fin 256) : mx Q K n (ix2 0 j) = top (score Q K (headOf n) (rowOf n j)) := by
  unfold mx; rw [pay9_at]
  exact top_halves _ _ _ (by decide) (fun i h => (sLo_at Q K n i j h).symm) (fun i h => (sHi_at Q K n i j h).symm)

/-- Item `n`'s weights, over all keys. -/
theorem probs_at (n : ℕ) (k : Fin 2304) (j : Fin 256) :
    probs Q K n (ix2 k j) = Ideal.exp2 (score Q K (headOf n) (rowOf n j) k - top (score Q K (headOf n) (rowOf n j))) := by
  unfold probs glue
  by_cases h : k.val < 1152
  · rw [dif_pos (show ((ix2 k j : S2304x256.Idx) 0).val < 1152 from h)]
    refine (pay10_at _ _ ⟨k.val, h⟩ j).trans ?_
    rw [mx_at, sLo_at Q K n ⟨k.val, h⟩ j k.isLt]
  · rw [dif_neg (show ¬ ((ix2 k j : S2304x256.Idx) 0).val < 1152 from h)]
    refine (pay10_at _ _ ⟨k.val - 1152, by omega⟩ j).trans ?_
    rw [mx_at, sHi_at Q K n ⟨k.val - 1152, by omega⟩ j (by show 1152 + (k.val - 1152) < 2304; omega)]
    rw [show (⟨1152 + (k.val - 1152), by omega⟩ : Fin 2304) = k from Fin.ext (by show 1152 + (k.val - 1152) = k.val; omega)]

/-- Item `n`'s outputs. -/
theorem outItem_at (n : ℕ) (e : Fin 64) (j : Fin 256) :
    outItem Q K V n (ix4 0 0 e j)
      = baseTwo (score Q K (headOf n) (rowOf n j)) (fun k => V (ix3 0 ⟨64 * (n % 12) + e.val, by omega⟩ k)) := by
  unfold outItem; rw [pay1_at]
  simp only [probs_at]
  rfl

end Cert.KernelIdeal.Att
-- ==== Proof.Att.Loop.lean ====
/-
  The kernel's counted loop. Before trip `k` the probabilities of item `2 k` and the scores and the maximum of item
  `2 k + 1` are at hand, and the items before `2 k` are written out; a trip brings this from `k` to `k + 1`.
-/
module

public import proofs.«01_k».proof.Proof.Gen.KernelIdeal.Frame
public import proofs.«01_k».proof.Proof.Att.Vals

@[expose] public section

set_option maxRecDepth 16384

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.none

/-- The core holds the whole of a buffer, at the given contents. -/
abbrev held {s : Shape} {e : EltTy} (c : Dev nD) (a : Memref sig .tc .vmem s e) (f : a.view.ty.Contents (Elt F)) : sProp 𝕄 :=
  a.view.loc (c : Thread nD τ) ↦[a.view.set]{fullShare} f

/-- What the buffers the loop rewrites hold before trip `k`: the items before `2 k` are in the output block, `S` holds the
    scores of item `2 k + 1`, `P` the probabilities of item `2 k`, and the carried value is the maximum of `S`. -/
structure AtTrip (Q : Vec F S1x12x1024x128 .bf16) (K : Vec F S1x12x2304x128 .bf16) (V : Vec F S1x768x2304 .bf16) (k : ℕ)
    (O : Vec F S1x4x768x256 .bf16) (S : Vec F S2304x256 .f32) (P : Vec F S2304x256 .bf16) (acc : FVec F S1x256 .f32) : Prop where
  out : Done Q K V (2 * k) O
  scores : S = glue (sLo Q K (2 * k + 1)) (sHi Q K (2 * k + 1))
  probs : P = probs Q K (2 * k)
  acc : acc = mx Q K (2 * k + 1)

section Trip

variable (c : Dev nD) (arg2 : Memref sig .tc .vmem S1x12x1024x128 .bf16) (arg3 : Memref sig .tc .vmem S1x12x2304x128 .bf16) (arg4 : Memref sig .tc .vmem S1x768x2304 .bf16) (arg5 : Memref sig .tc .vmem S1x4x768x256 .bf16) (arg6 : Memref sig .tc .vmem S2304x256 .f32) (arg7 : Memref sig .tc .vmem S2304x256 .f32) (arg8 : Memref sig .tc .vmem S2304x256 .bf16) (arg9 : Memref sig .tc .vmem S2304x256 .bf16)
variable (f2 : arg2.view.ty.Contents (Elt F)) (f3 : arg3.view.ty.Contents (Elt F)) (f4 : arg4.view.ty.Contents (Elt F))

/-- The loop's invariant before trip `k`, the carried value `acc`. -/
def inv (k : ℕ) (acc : FVec F S1x256 .f32) : sProp 𝕄 :=
  iprop(held c arg2 f2 ∗ held c arg3 f3 ∗ held c arg4 f4
    ∗ ∃ f5 f6 f7 f8 f9, held c arg5 f5 ∗ held c arg6 f6 ∗ held c arg7 f7 ∗ held c arg8 f8 ∗ held c arg9 f9
      ∗ ⌜AtTrip (arg2.view.read (Elt F) f2) (arg3.view.read (Elt F) f3) (arg4.view.read (Elt F) f4) k
          (arg5.view.read (Elt F) f5) (arg7.view.read (Elt F) f7) (arg8.view.read (Elt F) f8) acc⌝)

/-- One trip keeps the invariant. -/
theorem step (i : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (v42 : FVec F S1x256 .f32) (a b : BitVec 32)
   (k : Fin k0_t1_loop.trips) (acc : FVec F S1x256 .f32) :
   inv c arg2 arg3 arg4 arg5 arg6 arg7 arg8 arg9 f2 f3 f4 k.val acc
   ⊢ wp frame (wpE defs₀ 𝒱₀ (c : Thread nD τ) none) Set.univ (k0_t1_body (F := F) i arg2 harg2 arg3 harg3 arg4 harg4 arg5 harg5 arg6 harg6 arg7 harg7 arg8 harg8 arg9 harg9 k0_pay23 v42 a b k acc)
     (inv c arg2 arg3 arg4 arg5 arg6 arg7 arg8 arg9 f2 f3 f4 (k.val + 1)) := by
  have hk : k.val < 23 := k.isLt
  unfold inv
  iintro ⟨H2, H3, H4, ⟨%f5, %f6, %f7, %f8, %f9, H5, H6, H7, H8, H9, %hI⟩⟩
  obtain ⟨hO, hS, hP, hacc⟩ := hI
  subst hacc
  unfold held
  sl_unfold [k0_t1_body]
  sl_exec
  sl_step
  isplitl [H2]; · iexact H2
  isplitl [H3]; · iexact H3
  isplitl [H4]; · iexact H4
  iexists _, _, _, _, _
  isplitl [H5]; · iexact H5
  isplitl [H6]; · iexact H6
  isplitl [H7]; · iexact H7
  isplitl [H8]; · iexact H8
  isplitl [H9]; · iexact H9
  ipureintro
  sl_unfold_run_names
  simp only [View.readCov, View.readAt_eq_ld]
  have e1 : 2 * (k.val + 1) = 2 * k.val + 1 + 1 := by omega
  have e2 : 2 * k.val + 1 + 1 = 2 * k.val + 2 := by omega
  have e3 : 2 * (k.val + 1) + 1 = 2 * k.val + 3 := by omega
  constructor
  · rw [e1]
    refine Done.store _ _ _ (Done.store _ _ [] hO _ (off2_eq k) _ _ ?_) _ (off7_eq k) _ _ ?_
    · rw [ld_vRows _ (2 * k.val) _ (off1_eq k), hP, ld_all]; rfl
    · rw [ld_vRows _ (2 * k.val + 1) _ (off6_eq k), read_writes_halves, ld_all, hS, ld_glue_lo, ld_glue_hi]; rfl
  · rw [e3, read_writes_halves, ld_qTile _ (2 * k.val + 3) (by omega) _ (off8_eq k), ld_kLo _ (2 * k.val + 3) _ (off9_eq k),
      ld_kHi _ (2 * k.val + 3) _ (off10_eq k)]; rfl
  · rw [e1, e2, read_writes_halves, read_writes_halves, ld_glue_lo, ld_glue_hi, ld_qTile _ (2 * k.val + 2) (by omega) _ (off3_eq k), ld_kLo _ (2 * k.val + 2) _ (off4_eq k),
      ld_kHi _ (2 * k.val + 2) _ (off5_eq k)]; rfl
  · rw [e3, ld_qTile _ (2 * k.val + 3) (by omega) _ (off8_eq k), ld_kLo _ (2 * k.val + 3) _ (off9_eq k),
      ld_kHi _ (2 * k.val + 3) _ (off10_eq k)]; rfl

end Trip

end Cert.KernelIdeal.Att
-- ==== Proof.Att.Body.lean ====
/-
  The kernel at one grid point: whatever the output block and the scratch buffers hold before, the output block holds the
  point's result after, and the operands' blocks are unchanged.
-/
module

public import proofs.«01_k».proof.Proof.Att.Loop

@[expose] public section

set_option maxRecDepth 16384

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (arg2 : Memref sig .tc .vmem S1x12x1024x128 .bf16) (arg3 : Memref sig .tc .vmem S1x12x2304x128 .bf16) (arg4 : Memref sig .tc .vmem S1x768x2304 .bf16) (arg5 : Memref sig .tc .vmem S1x4x768x256 .bf16) (arg6 : Memref sig .tc .vmem S2304x256 .f32) (arg7 : Memref sig .tc .vmem S2304x256 .f32) (arg8 : Memref sig .tc .vmem S2304x256 .bf16) (arg9 : Memref sig .tc .vmem S2304x256 .bf16)
variable (f2 : arg2.view.ty.Contents (Elt F)) (f3 : arg3.view.ty.Contents (Elt F)) (f4 : arg4.view.ty.Contents (Elt F))

/-- What is held after the kernel's run: the operands' blocks as before, the output block at the result, the scratch buffers
    at anything. -/
def after : sProp 𝕄 :=
  iprop(held c arg2 f2 ∗ held c arg3 f3 ∗ held c arg4 f4
    ∗ ∃ f5 f6 f7 f8 f9, held c arg5 f5 ∗ held c arg6 f6 ∗ held c arg7 f7 ∗ held c arg8 f8 ∗ held c arg9 f9
      ∗ ⌜arg5.view.read (Elt F) f5 = outBlock (arg2.view.read (Elt F) f2) (arg3.view.read (Elt F) f3) (arg4.view.read (Elt F) f4)⌝)

/-- The kernel at one grid point, before any continuation `K`: from the operands' blocks and the other buffers at anything to `after`. -/
theorem body (K : PUnit → sProp 𝕄) (i : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
   (f5 : arg5.view.ty.Contents (Elt F)) (f6 : arg6.view.ty.Contents (Elt F)) (f7 : arg7.view.ty.Contents (Elt F)) (f8 : arg8.view.ty.Contents (Elt F)) (f9 : arg9.view.ty.Contents (Elt F)) :
   iprop(held c arg2 f2 ∗ held c arg3 f3 ∗ held c arg4 f4 ∗ held c arg5 f5 ∗ held c arg6 f6 ∗ held c arg7 f7 ∗ held c arg8 f8 ∗ held c arg9 f9
     ∗ (after c arg2 arg3 arg4 arg5 arg6 arg7 arg8 arg9 f2 f3 f4 -∗ K ⟨⟩))
   ⊢ wp frame (wpE defs₀ 𝒱₀ (c : Thread nD τ) none) Set.univ (cc0_attention (F := F) i arg2 harg2 arg3 harg3 arg4 harg4 arg5 harg5 arg6 harg6 arg7 harg7 arg8 harg8 arg9 harg9)
     K := by
  unfold held after
  iintro ⟨H2, H3, H4, H5, H6, H7, H8, H9, Hk⟩
  sl_unfold [cc0_attention]
  sl_exec
  iapply (Scf.wp_for_bind frame (wpE (defs₀ (F := F)) 𝒱₀ (c : Thread nD τ) none) Set.univ k0_t1_loop.lb k0_t1_loop.ub k0_t1_loop.st k0_t1_ok _ _
    (inv c arg2 arg3 arg4 arg5 arg6 arg7 arg8 arg9 f2 f3 f4)
    (fun k acc => step c arg2 arg3 arg4 arg5 arg6 arg7 arg8 arg9 f2 f3 f4 i harg2 harg3 harg4 harg5 harg6 harg7 harg8 harg9 _ _ _ k acc)) $$ [H2 H3 H4 H5 H6 H7 H8 H9]
  · unfold inv held
    isplitl [H2]; · iexact H2
    isplitl [H3]; · iexact H3
    isplitl [H4]; · iexact H4
    iexists _, _, _, _, _
    isplitl [H5]; · iexact H5
    isplitl [H6]; · iexact H6
    isplitl [H7]; · iexact H7
    isplitl [H8]; · iexact H8
    isplitl [H9]; · iexact H9
    ipureintro
    sl_unfold_run_names
    simp only [View.readCov, View.readAt_eq_ld]
    constructor
    · intro y hy; exact absurd hy (by omega)
    · rw [read_writes_halves, ld_qTile _ (2 * 0 + 1) (by omega) _ rfl, ld_kLo _ (2 * 0 + 1) _ rfl, ld_kHi _ (2 * 0 + 1) _ rfl]; rfl
    · rw [read_writes_halves, read_writes_halves, ld_glue_lo, ld_glue_hi, ld_qTile _ (2 * 0) (by omega) _ rfl, ld_kLo _ (2 * 0) _ rfl, ld_kHi _ (2 * 0) _ rfl]; rfl
    · rw [ld_qTile _ (2 * 0 + 1) (by omega) _ rfl, ld_kLo _ (2 * 0 + 1) _ rfl, ld_kHi _ (2 * 0 + 1) _ rfl]; rfl
  iintro %acc Hinv
  have ht : Scf.trips k0_t1_loop.lb k0_t1_loop.ub k0_t1_loop.st = 23 := by decide +kernel
  rw [ht]
  unfold inv held
  icases Hinv with ⟨H2, H3, H4, ⟨%g5, %g6, %g7, %g8, %g9, H5, H6, H7, H8, H9, %hI⟩⟩
  obtain ⟨hO, hS, hP, hacc⟩ := hI
  subst hacc
  sl_exec
  sl_step
  iapply Hk
  isplitl [H2]; · iexact H2
  isplitl [H3]; · iexact H3
  isplitl [H4]; · iexact H4
  iexists _, _, _, _, _
  isplitl [H5]; · iexact H5
  isplitl [H6]; · iexact H6
  isplitl [H7]; · iexact H7
  isplitl [H8]; · iexact H8
  isplitl [H9]; · iexact H9
  ipureintro
  sl_unfold_run_names
  simp only [View.readCov, View.readAt_eq_ld]
  refine Done.all (Done.store (n := 47) _ _ _ (Done.store (n := 46) _ _ [] hO _ rfl _ _ ?_) _ rfl _ _ ?_)
  · rw [ld_vRows _ 46 _ rfl, hP, ld_all]; rfl
  · rw [ld_vRows _ 47 _ rfl, read_writes_halves, ld_all, hS, ld_glue_lo, ld_glue_hi]; rfl

end Cert.KernelIdeal.Att
-- ==== Proof.Att.Launch.lean ====
/-
  The kernel's launch: every execution of the program terminates without a fault, leaves the arguments and every semaphore
  counter as they were, and leaves in the result array, block by block, what the points' runs of the kernel compute.
-/
module

public import proofs.«01_k».proof.Proof.Att.Body

@[expose] public section

set_option maxRecDepth 16384

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the output's staging buffer. -/
def outAt (c : Dev nD) (t : Fin cfg0.N) : Vec F S1x4x768x256 .bf16 := outBlock (X0_0 m c t) (iblk m c 1 t) (iblk m c 2 t)

/-- The launch's proof data: each operand's buffer keeps its block, the output's gets `outAt`, nothing is owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_q (c : Dev nD) (t : Fin cfg0.N) : (dats m 0 c).after 0 t = X0_0 m c t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]
theorem before_q (c : Dev nD) (t : Fin cfg0.N) (d) : (dats m 0 c).before 0 t d = X0_0 m c t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-- What the kernel is called with at point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The kernel at every point of the grid. -/
theorem sound (c : Dev nD) (t : Fin cfg0.N) :
    pre m c t ⊢ wp frame (wpE (defs₀ (F := F)) Variants.none (c : Thread nD τ) none) Set.univ (bodyAt0 t) (fun _ => post m c t) := by
  unfold pre post bodyAt0
  simp only [before_q, before_k, before_v]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_q, after_k, after_v, after_o]
  unfold Pipeline.ΦA
  rw [scopedRest0_eq]
  simp only [← owns_whole]
  unfold owns outAt
  iintro ⟨⟨⟨⟨%d6, %f6, %h6, H6⟩, ⟨%d7, %f7, %h7, H7⟩, ⟨%d8, %f8, %h8, H8⟩, ⟨%d9, %f9, %h9, H9⟩⟩, Hg⟩, Ho,
    ⟨%d2, %f2, %h2, H2⟩, ⟨%d3, %f3, %h3, H3⟩, ⟨%d4, %f4, %h4, H4⟩, ⟨%d5, %f5, %h5, H5⟩⟩
  iapply (body c _ _ _ _ _ _ _ _ f2 f3 f4 _ _ _ _ _ _ _ _ _ _ f5 f6 f7 f8 f9)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold after held
  iintro ⟨H2, H3, H4, ⟨%g5, %g6, %g7, %g8, %g9, H5, H6, H7, H8, H9, %hO⟩⟩
  isplitl [H6 H7 H8 H9 Hg]
  · isplitl [H6 H7 H8 H9]
    · isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      iexists _, _; isplitr; swap; · iexact H9
      ipureintro; rfl
    iexact Hg
  isplitl [Ho]; · iexact Ho
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  iexists _; isplitr; swap; · iexact H5
  ipureintro; rw [hO, h2, h3, h4]

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every execution ends with each array at the launch's account of it and every counter at zero. -/
theorem run : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Every execution ends with the arguments unchanged, every counter at zero, and the result array at what the points
    wrote back. -/
theorem result : θ_run defs (onTc (τ := τ) (main (F := F))) ⟨m, fun _ => 0, ρ⟩ (fun r =>
    (∀ c : Dev nD, r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c).1 3,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run m ρ)

end Cert.KernelIdeal.Att
-- ==== Proof.Att.Result.lean ====
/-
  The result array as a function of the arguments, over the extended reals: every element is one query's base-two softmax of
  its scores over one channel of the values.
-/
module

public import proofs.«01_k».proof.Proof.Att.Read
public import proofs.«01_k».proof.Proof.Att.Launch
public import Idealize.ShloMosaic.Lib.Pipeline.Value

@[expose] public section

set_option maxRecDepth 16384

noncomputable section

namespace Cert.KernelIdeal.Att

open Cert.KernelIdeal Cert.KernelIdeal.Gen
open Idealize.ShloMosaic
open Idealize.ShloMosaic.TcCoe

/-! ## Where the blocks lie -/

theorem index_q : ∀ t : Fin cfg0.N, win0_0.index t 0 = t.val / 2 ∧ win0_0.index t 1 = 0 ∧ win0_0.index t 2 = t.val % 2 ∧ win0_0.index t 3 = 0 := by decide +kernel
theorem index_k : ∀ t : Fin cfg0.N, win0_1.index t 0 = t.val / 2 ∧ win0_1.index t 1 = 0 ∧ win0_1.index t 2 = 0 ∧ win0_1.index t 3 = 0 := by decide +kernel
theorem index_v : ∀ t : Fin cfg0.N, win0_2.index t 0 = t.val / 2 ∧ win0_2.index t 1 = 0 ∧ win0_2.index t 2 = 0 := by decide +kernel
theorem index_o : ∀ t : Fin cfg0.N, win0_3.index t 0 = t.val / 2 ∧ win0_3.index t 1 = t.val % 2 ∧ win0_3.index t 2 = 0 ∧ win0_3.index t 3 = 0 := by decide +kernel
theorem size_o : ∀ t : Fin cfg0.N, win0_3.xsize (grid0.coords t) 0 = 1 ∧ win0_3.xsize (grid0.coords t) 1 = 4
    ∧ win0_3.xsize (grid0.coords t) 2 = 768 ∧ win0_3.xsize (grid0.coords t) 3 = 256 := by decide +kernel

theorem point_lt (t : Fin cfg0.N) : t.val < 32 := t.isLt.trans_eq N_0

variable {F : FTy → Type} [FloatOps F]
variable (m : (ℓ : Loc nD τ sig) → Buf (Elt F) ℓ) (c : Dev nD) (t : Fin cfg0.N)

/-- The queries, -/
def argQ : Vec F S16x12x2304x128 .bf16 := m ((c.tc : Thread nD τ).loc main_arg0)
/-- the keys, -/
def argK : Vec F S16x12x2304x128 .bf16 := m ((c.tc : Thread nD τ).loc main_arg1)
/-- the values. -/
def argV : Vec F S16x768x2304 .bf16 := m ((c.tc : Thread nD τ).loc main_arg2)

/-- Point `t` works on batch `t / 2`. -/
def bat : Fin 16 := ⟨t.val / 2, by have := point_lt t; omega⟩

/-- Its queries' block holds 1024 rows from row `1024 (t % 2)`, -/
theorem q_at (h : Fin 12) (r : Fin 1024) (d : Fin 128) :
    X0_0 m c t (ix4 0 h r d) = argQ m c (ix4 (bat t) h ⟨1024 * (t.val % 2) + r.val, by omega⟩ d) := by
  obtain ⟨h0, h1, h2, h3⟩ := index_q t
  unfold X0_0 Pipeline.Window.fill
  rw [dif_pos (moved0_0 t (ix4 0 h r d))]
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 2; omega
  | ⟨1, _⟩ => show win0_0.index t 1 * 12 + 1 * h.val = h.val; omega
  | ⟨2, _⟩ => show win0_0.index t 2 * 1024 + 1 * r.val = 1024 * (t.val % 2) + r.val; omega
  | ⟨3, _⟩ => show win0_0.index t 3 * 128 + 1 * d.val = d.val; omega

/-- its keys' block all of the batch's keys, -/
theorem k_at (h : Fin 12) (r : Fin 2304) (d : Fin 128) :
    (iblk m c 1 t : Vec F S1x12x2304x128 .bf16) (ix4 0 h r d) = argK m c (ix4 (bat t) h r d) := by
  obtain ⟨h0, h1, h2, h3⟩ := index_k t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 2; omega
  | ⟨1, _⟩ => show win0_1.index t 1 * 12 + 1 * h.val = h.val; omega
  | ⟨2, _⟩ => show win0_1.index t 2 * 2304 + 1 * r.val = r.val; omega
  | ⟨3, _⟩ => show win0_1.index t 3 * 128 + 1 * d.val = d.val; omega

/-- and its values' block all of the batch's values. -/
theorem v_at (e : Fin 768) (k : Fin 2304) :
    (iblk m c 2 t : Vec F S1x768x2304 .bf16) (ix3 0 e k) = argV m c (ix3 (bat t) e k) := by
  obtain ⟨h0, h1, h2⟩ := index_v t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 2; omega
  | ⟨1, _⟩ => show win0_2.index t 1 * 768 + 1 * e.val = e.val; omega
  | ⟨2, _⟩ => show win0_2.index t 2 * 2304 + 1 * k.val = k.val; omega

/-! ## The result -/

/-- The score, in batch `b` and head `h`, of query row `r` with key `k`. -/
def scoreOf (Q K : FVec Ideal S16x12x2304x128 .bf16) (b : Fin 16) (h : Fin 12) (r : Fin 2304) (k : Fin 2304) : EReal :=
  ∑ d : Fin 128, K (ix4 b h k d) * Q (ix4 b h r d)

/-- The result at batch `b`, tile `i`, channel `e`, query `j`: head `e / 64`, query row `256 i + j`. -/
def attention (Q K : FVec Ideal S16x12x2304x128 .bf16) (V : FVec Ideal S16x768x2304 .bf16) (b : Fin 16) (i : Fin 8) (e : Fin 768) (j : Fin 256) : EReal :=
  baseTwo (scoreOf Q K b ⟨e.val / 64, by omega⟩ ⟨256 * i.val + j.val, by omega⟩) (fun k => V (ix3 b e k))

/-- The result array. -/
def whole (Q K : FVec Ideal S16x12x2304x128 .bf16) (V : FVec Ideal S16x768x2304 .bf16) : FVec Ideal S16x8x768x256 .bf16 :=
  fun y => attention Q K V (y 0) (y 1) (y 2) (y 3)

variable (m : (ℓ : Loc nD τ sig) → Buf (Elt Ideal) ℓ)

/-- What point `t` leaves in its block: its four tiles of the result. -/
theorem out_at (i : Fin 4) (e : Fin 768) (j : Fin 256) :
    outAt m c t (ix4 0 i e j) = attention (argQ m c) (argK m c) (argV m c) (bat t) ⟨4 * (t.val % 2) + i.val, by omega⟩ e j := by
  unfold outAt outBlock
  show outItem _ _ _ (12 * i.val + e.val / 64) (ix4 0 0 ⟨e.val % 64, _⟩ j) = _
  rw [outItem_at]
  unfold attention
  have hh : headOf (12 * i.val + e.val / 64) = ⟨e.val / 64, by omega⟩ := Fin.ext (by show (12 * i.val + e.val / 64) % 12 = e.val / 64; omega)
  have he : 64 * ((12 * i.val + e.val / 64) % 12) + e.val % 64 = e.val := by omega
  congr 1
  · funext k
    rw [hh]
    unfold score scoreOf
    refine Finset.sum_congr rfl fun d _ => ?_
    rw [k_at, q_at]
    congr 3
    exact Fin.ext (by show 1024 * (t.val % 2) + (256 * ((12 * i.val + e.val / 64) / 12 % 4) + j.val) = 256 * (4 * (t.val % 2) + i.val) + j.val; omega)
  · funext k
    rw [v_at]
    exact congrArg (fun x => argV m c (ix3 (bat t) x k)) (Fin.ext he)

/-- What point `t` writes back is its block of the result. -/
theorem flushed_eq (hf : (cfg0.win 3).flush t = true) :
    (dats m 0 c).flushed 3 t = ((cfg0.win 3).blk t).view.read (Elt Ideal) (whole (argQ m c) (argK m c) (argV m c)) := by
  obtain ⟨h0, h1, h2, h3⟩ := index_o t
  show (cfg0.win 3).cut (grid0.coords t) ((dats m 0 c).after 3 t) = _
  rw [after_o]
  funext y
  obtain ⟨y0, y1, y2, y3, rfl⟩ : ∃ y0 y1 y2 y3, y = (ix4 y0 y1 y2 y3 : S1x4x768x256.Idx) := ⟨_, _, _, _, eq_ix4 y⟩
  obtain rfl : y0 = 0 := Subsingleton.elim _ _
  refine (out_at c t m y1 y2 y3).trans ?_
  rw [View.read_apply]
  unfold whole
  refine (congr (congr (congr (congrArg _ ?_) ?_) ?_) ?_)
  · exact Fin.ext (by show t.val / 2 = win0_3.index t 0 * 1 + 1 * 0; omega)
  · exact Fin.ext (by show 4 * (t.val % 2) + y1.val = win0_3.index t 1 * 4 + 1 * y1.val; omega)
  · exact Fin.ext (by show y2.val = win0_3.index t 2 * 768 + 1 * y2.val; omega)
  · exact Fin.ext (by show y3.val = win0_3.index t 3 * 256 + 1 * y3.val; omega)

/-- The points' blocks fill the result array. -/
theorem final : (dats m 0 c).arrAt 3 cfg0.N = whole (argQ m c) (argK m c) (argV m c) :=
  (dats m 0 c).arrAt_eq_of_cover 3 (whole (argQ m c) (argK m c) (argV m c)) (fun t hf => flushed_eq c t m hf) fun i => by
    have g0 : (i 0 : Nat) < 16 := (i 0).isLt
    have g1 : (i 1 : Nat) < 8 := (i 1).isLt
    have g2 : (i 2 : Nat) < 768 := (i 2).isLt
    have g3 : (i 3 : Nat) < 256 := (i 3).isLt
    have hN : 2 * (i 0 : Nat) + (i 1 : Nat) / 4 < cfg0.N := by rw [show cfg0.N = 32 from N_0]; omega
    set t : Fin cfg0.N := ⟨2 * (i 0 : Nat) + (i 1 : Nat) / 4, hN⟩ with ht
    have tv : t.val = 2 * (i 0 : Nat) + (i 1 : Nat) / 4 := rfl
    obtain ⟨h0, h1, h2, h3⟩ := index_o t
    obtain ⟨s0, s1, s2, s3⟩ := size_o t
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + win0_3.xsize (grid0.coords t) 0
                rw [h0, s0, tv]; omega
    | ⟨1, _⟩ => show win0_3.index t 1 * 4 ≤ (i 1 : Nat) ∧ (i 1 : Nat) < win0_3.index t 1 * 4 + win0_3.xsize (grid0.coords t) 1
                rw [h1, s1, tv]; omega
    | ⟨2, _⟩ => show win0_3.index t 2 * 768 ≤ (i 2 : Nat) ∧ (i 2 : Nat) < win0_3.index t 2 * 768 + win0_3.xsize (grid0.coords t) 2
                rw [h2, s2]; omega
    | ⟨3, _⟩ => show win0_3.index t 3 * 256 ≤ (i 3 : Nat) ∧ (i 3 : Nat) < win0_3.index t 3 * 256 + win0_3.xsize (grid0.coords t) 3
                rw [h3, s3]; omega

end Cert.KernelIdeal.Att
-- ==== Proof.Att.Reference.lean ====
/-
  The reference over the extended reals, element by element: a query's softmax of its scores times `log 2`, over one channel
  of the values.
-/
module

public import proofs.«01_k».proof.Proof.Gen.ReferenceIdeal.Run
public import proofs.«01_k».proof.Proof.Att.Result

@[expose] public section

set_option maxRecDepth 16384

noncomputable section

namespace Cert.ReferenceIdeal.Att

open Cert.ReferenceIdeal Cert.ReferenceIdeal.Gen
open Idealize.ShloMosaic Idealize.ShloMosaic.TcCoe
open Cert.KernelIdeal.Att (top softmax negInf scoreOf)

/-- The scores, times `log 2`. -/
def scores (Q K : FVec Ideal S16x12x2304x128 .bf16) : FVec Ideal S16x12x2048x2304 .f32 :=
  mulf (Host.dotGeneral dot_S16x12x2048x128_S16x12x2304x128_S16x12x2048x2304_3_3_2_2_01_01 none
    (extractStridedSlice S16x12x2048x128 ![0, 0, 0, 0] Q slices_S16x12x2304x128_S16x12x2048x128_0_0_0_0) K)
    (broadcastInDim S16x12x2048x2304 ![] bcast_S_S16x12x2048x2304 (Host.log (constant S_ .f32 0x40000000#32)))

/-- The maxima over the keys. -/
def rowMax (S : FVec Ideal S16x12x2048x2304 .f32) : FVec Ideal S16x12x2048 .f32 :=
  Host.reduce FloatOps.maximumf S (constant S_ .f32 0xFF800000#32) reducesTo_S16x12x2048x2304_S16x12x2048_d3 h_S_

/-- The exponentials of the scores less `M`, a row's. -/
def expLess (S : FVec Ideal S16x12x2048x2304 .f32) (M : FVec Ideal S16x12x2048 .f32) : FVec Ideal S16x12x2048x2304 .f32 :=
  Host.exp (subf S (broadcastInDim S16x12x2048x2304 ![0, 1, 2, 3] bcast_S16x12x2048x1_S16x12x2048x2304_0_1_2_3
    (broadcastInDim S16x12x2048x1 ![0, 1, 2] bcast_S16x12x2048_S16x12x2048x1_0_1_2
      (maximumf (broadcastInDim S16x12x2048 ![] bcast_S_S16x12x2048 (constant S_ .f32 0xFF800000#32)) M))))

/-- The probabilities. -/
def normalised (W : FVec Ideal S16x12x2048x2304 .f32) : FVec Ideal S16x12x2048x2304 .bf16 :=
  truncf .bf16 (Host.divf W (broadcastInDim S16x12x2048x2304 ![0, 1, 2, 3] bcast_S16x12x2048x1_S16x12x2048x2304_0_1_2_3
    (broadcastInDim S16x12x2048x1 ![0, 1, 2] bcast_S16x12x2048_S16x12x2048x1_0_1_2
      (Host.reduceAdd W (constant S_ .f32 0x00000000#32) reducesTo_S16x12x2048x2304_S16x12x2048_d3 h_S_)))) bitsLt_bf16_f32

/-- Their products with the values. -/
def outputs (P : FVec Ideal S16x12x2048x2304 .bf16) (V : FVec Ideal S16x768x2304 .bf16) : FVec Ideal S16x8x768x256 .bf16 :=
  transpose S16x8x768x256 [0, 1, 3, 2] (shapeCast _ (truncf .bf16 (transpose S16x2048x12x64 [0, 3, 1, 2]
    (Host.dotGeneral dot_S16x12x64x2304_S16x12x2048x2304_S16x12x64x2048_3_3_2_2_01_01 none
      (shapeCast _ V shapeCasts_S16x768x2304_S16x12x64x2304) P)
    transposes_S16x12x64x2048_S16x2048x12x64_0_3_1_2) bitsLt_bf16_f32) shapeCasts_S16x2048x12x64_S16x8x256x768)
    transposes_S16x8x256x768_S16x8x768x256_0_1_3_2

theorem two : Ideal.ofBits FTy.f32 0x40000000#32 = ((2 : ℝ) : EReal) := by
  simp [Ideal.ofBits, Ideal.ieee, -EReal.coe_mul]; norm_num

theorem rowMax_at (S : FVec Ideal S16x12x2048x2304 .f32) (b : Fin 16) (h : Fin 12) (r : Fin 2048) :
    rowMax S (ix3 b h r) = top fun k => S (ix4 b h r k) := by
  unfold rowMax
  rw [Host.reduce_eq_fold, Shape.ReducesTo.fold_fiber_r4_a3]
  unfold top
  rw [show (constant S_ .f32 0xFF800000#32 : FVec Ideal S_ .f32) (Shape.Idx.first h_S_) = ⊥ from negInf]
  rfl

theorem expLess_at (S : FVec Ideal S16x12x2048x2304 .f32) (M : FVec Ideal S16x12x2048 .f32) (b : Fin 16) (h : Fin 12) (r : Fin 2048) (k : Fin 2304) :
    expLess S M (ix4 b h r k) = Ideal.exp (S (ix4 b h r k) - M (ix3 b h r)) := by
  pointwise [expLess]
  rw [show Ideal.ofBits FTy.f32 4286578688#32 = ⊥ from negInf, max_eq_right bot_le]

theorem scores_at (Q K : FVec Ideal S16x12x2304x128 .bf16) (b : Fin 16) (h : Fin 12) (r : Fin 2048) (k : Fin 2304) :
    scores Q K (ix4 b h r k) = scoreOf Q K b h ⟨r.val, by omega⟩ k * ((Real.log 2 : ℝ) : EReal) := by
  pointwise [scores]
  rw [show Ideal.ofBits FTy.f32 1073741824#32 = ((2 : ℝ) : EReal) from two]
  unfold scoreOf
  refine congr (congrArg _ (Finset.sum_congr rfl fun d _ => mul_comm _ _)) ?_
  show (if (2 : ℝ) ≤ 0 then ⊥ else ((Real.log 2 : ℝ) : EReal)) = _
  rw [if_neg (by norm_num)]

theorem normalised_at (W : FVec Ideal S16x12x2048x2304 .f32) (b : Fin 16) (h : Fin 12) (r : Fin 2048) (k : Fin 2304) :
    normalised W (ix4 b h r k) = Ideal.div (W (ix4 b h r k)) (∑ k, W (ix4 b h r k)) := by
  pointwise [normalised]

theorem outputs_at (P : FVec Ideal S16x12x2048x2304 .bf16) (V : FVec Ideal S16x768x2304 .bf16) (b : Fin 16) (i : Fin 8) (e : Fin 768) (j : Fin 256) :
    outputs P V (ix4 b i e j) = ∑ k : Fin 2304, V (ix3 b e k) * P (ix4 b ⟨e.val / 64, by omega⟩ ⟨256 * i.val + j.val, by omega⟩ k) := by
  pointwise [outputs]
  simp only [mul_comm i.val 256]

end Cert.ReferenceIdeal.Att
-- ==== Proof.Att.Finite.lean ====
/-
  What the precondition says: every query and every key is a finite extended real, so every score is one.
-/
module

public import proofs.«01_k».proof.Proof.Att.Reference
public import proofs.«01_k».proof.Pre_finite_scores

@[expose] public section

set_option maxRecDepth 16384

noncomputable section

namespace Cert.Pre_finite_scores.Att

open Idealize.ShloMosaic

theorem facts : Cert.Pre_finite_scores.Facts where
  bitsLt_bf16_f32 := by decide
  bcast_S_S16x12x2304x128 := by decide
  reducesTo_S16x12x2304x128_S_d0_1_2_3 := by decide
  h_S_ := by decide

/-- A conjunction over the indices that is true is true at each. -/
theorem fold_andi {ι : Type} (s : Finset ι) (f : ι → BitVec 1) (b : BitVec 1) (e : s.fold IntOp.andi b f = 1#1) : ∀ i ∈ s, f i = 1#1 := by
  induction s using Finset.cons_induction with
  | empty => simp
  | cons a t ha ih =>
    rw [Finset.fold_cons] at e
    have key : ∀ x y : BitVec 1, IntOp.andi x y = 1#1 → x = 1#1 ∧ y = 1#1 := by decide
    obtain ⟨h1, h2⟩ := key _ _ e
    intro i hi
    rcases Finset.mem_cons.1 hi with rfl | hi
    · exact h1
    · exact ih h2 i hi

/-- So is one a program takes over some axes of an array. -/
theorem of_reduce {s t u : Shape} {axes : List (Fin s.rank)} (x : IVec s 1) (init : IVec u 1) (h : s.ReducesTo axes t) (hu : 0 < u.numel) (j : t.Idx)
    (e : Host.reduce IntOp.andi x init h hu j = 1#1) (i : s.Idx) (hi : h.drop i = j) : x i = 1#1 := by
  rw [Host.reduce_eq_fold] at e
  exact fold_andi _ _ _ e i (Finset.mem_filter.2 ⟨Finset.mem_univ _, hi⟩)

theorem posInf : Ideal.ofBits FTy.f32 0x7F800000#32 = ⊤ := by simp [Ideal.ofBits, Ideal.ieee]

/-- An array's element whose absolute value is below infinity is finite. -/
theorem finite_of_lt (x : FVec Ideal S16x12x2304x128 .bf16) (b : Fin 16) (h : Fin 12) (k : Fin 2304) (d : Fin 128)
   (hb) (hc)
   (e : cmpf .olt (Host.absf (extf .f32 x hb)) (broadcastInDim S16x12x2304x128 ![] hc (constant (F := Ideal) S_ .f32 0x7F800000#32)) (ix4 b h k d) = 1#1) :
    ∃ r : ℝ, x (ix4 b h k d) = (r : EReal) := by
  pointwise at e
  rw [show Ideal.ofBits FTy.f32 2139095040#32 = ⊤ from posInf] at e
  generalize hy : x (ix4 b h k d) = y at e
  change EReal at y
  have lt : max y (-y) < ⊤ := by
    by_contra hn
    have e' : BitVec.ofBool (decide (max y (-y) < ⊤)) = 1#1 := e
    rw [decide_eq_false hn] at e'
    exact absurd e' (by decide)
  induction y with
  | bot => exact absurd ((le_max_right (⊥ : EReal) (-⊥)).trans_lt lt) (by simp)
  | top => exact absurd ((le_max_left (⊤ : EReal) (-⊤)).trans_lt lt) (lt_irrefl _)
  | coe r => exact ⟨r, rfl⟩

/-- Under the precondition the queries and the keys are finite. -/
theorem finite (Q K : FVec Ideal S16x12x2304x128 .bf16) (V : FVec Ideal S16x768x2304 .bf16)
    (e : @Cert.Pre_finite_scores.fn facts Ideal _ Q K V = fun _ => 1#1) (b : Fin 16) (h : Fin 12) (k : Fin 2304) (d : Fin 128) :
    (∃ r : ℝ, Q (ix4 b h k d) = (r : EReal)) ∧ (∃ r : ℝ, K (ix4 b h k d) = (r : EReal)) := by
  have e' := congrFun e ix0
  unfold Cert.Pre_finite_scores.fn at e'
  have key : ∀ x y : BitVec 1, IntOp.andi x y = 1#1 → x = 1#1 ∧ y = 1#1 := by decide
  obtain ⟨h1, h2⟩ := key _ _ e'
  exact ⟨finite_of_lt Q b h k d _ _ (of_reduce _ _ _ _ _ h1 _ (funext fun a => a.elim0)),
    finite_of_lt K b h k d _ _ (of_reduce _ _ _ _ _ h2 _ (funext fun a => a.elim0))⟩

end Cert.Pre_finite_scores.Att
-- ==== Proof.Att.Frame.lean ====
/-
  The frame of the kernel on bits. The kernel as written and the kernel read over the extended reals are one program text at
  two number types, and `Launch.lean` speaks of that text at every number type: so its result, at bits, is the claim on the
  kernel as written.
-/
module

public import proofs.«01_k».proof.Proof.Att.Launch
public import proofs.«01_k».proof.Proof.Gen.Kernel
public import proofs.«01_k».proof.Defs

@[expose] public section

set_option maxRecDepth 16384

noncomputable section

namespace Cert.Kernel.Att

open Idealize.ShloMosaic Idealize.ShloMosaic.TcCoe

variable {F : FTy → Type} [FloatOps F]

/-- The two programs' kernel bodies are one. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => exact rfl

/-- So are their launches, -/
theorem defs_eq : @Cert.Kernel.defs F _ Cert.Kernel.Gen.facts = @Cert.KernelIdeal.defs F _ Cert.KernelIdeal.Gen.facts :=
  congrArg (Pipeline.defs Cert.KernelIdeal.pcfgs) defs₀_eq

/-- and their host code. -/
theorem main_eq : @Cert.Kernel.main F Cert.Kernel.Gen.facts = @Cert.KernelIdeal.main F Cert.KernelIdeal.Gen.facts := rfl

/-- The kernel on bits runs without a fault, leaves its arguments unchanged and every counter at zero. -/
theorem quiescent : Cert.quiescent_Kernel (hKernel := Cert.Kernel.Gen.facts) := by
  intro m g _
  rw [defs_eq, main_eq]
  exact (θ_run Cert.KernelIdeal.defs _ _).mono (fun _ h => ⟨fun c => (h.1 c).2, h.2⟩) (Cert.KernelIdeal.Att.result (F := Bits) m g)

end Cert.Kernel.Att

namespace Cert.KernelIdeal.Att

open Idealize.ShloMosaic Idealize.ShloMosaic.TcCoe

/-- The same over the extended reals, -/
theorem quiescent : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Att.result (F := Ideal) m g)

/-- and under the precondition, which it does not need. -/
theorem quiescent_pre (h : Cert.Pre_finite_scores.Facts) :
    Cert.quiescent_KernelIdeal_pre_finite_scores (hKernelIdeal := Cert.KernelIdeal.Gen.facts) (hPre_finite_scores := h) := fun m g _ =>
  (θ_run Cert.KernelIdeal.defs _ _).mono (fun _ h => ⟨fun c => (h.1 c).2, h.2⟩) (Cert.KernelIdeal.Att.result (F := Ideal) m g)

end Cert.KernelIdeal.Att
-- ==== Proof.Att.Value.lean ====
/-
  The value claim: at finite queries and keys the kernel and the reference leave the same result array.
-/
module

public import proofs.«01_k».proof.Proof.Att.Finite
public import proofs.«01_k».proof.Proof.Att.Frame

@[expose] public section

set_option maxRecDepth 16384

noncomputable section

namespace Cert.ReferenceIdeal.Att

open Idealize.ShloMosaic Idealize.ShloMosaic.TcCoe
open Cert.ReferenceIdeal
open Cert.KernelIdeal.Att (top softmax baseTwo baseTwo_eq scoreOf attention whole coe_sum argQ argK argV)

/-- The reference's result as a function of its arguments. -/
def reference (Q K : FVec Ideal S16x12x2304x128 .bf16) (V : FVec Ideal S16x768x2304 .bf16) : FVec Ideal S16x8x768x256 .bf16 :=
  outputs (normalised (expLess (scores Q K) (rowMax (scores Q K)))) V

/-- The reference at an index: a softmax of the scores times `log 2`. -/
theorem reference_at (Q K : FVec Ideal S16x12x2304x128 .bf16) (V : FVec Ideal S16x768x2304 .bf16) (b : Fin 16) (i : Fin 8) (e : Fin 768) (j : Fin 256) :
    reference Q K V (ix4 b i e j)
      = softmax (fun k => scoreOf Q K b ⟨e.val / 64, by omega⟩ ⟨256 * i.val + j.val, by omega⟩ k * ((Real.log 2 : ℝ) : EReal)) (fun k => V (ix3 b e k)) := by
  unfold reference
  rw [outputs_at]
  simp only [normalised_at, expLess_at, rowMax_at, scores_at]
  rfl

/-- A score of finite queries and keys is finite. -/
theorem score_finite (Q K : FVec Ideal S16x12x2304x128 .bf16) (hQ : ∀ b h k d, ∃ r : ℝ, Q (ix4 b h k d) = (r : EReal))
    (hK : ∀ b h k d, ∃ r : ℝ, K (ix4 b h k d) = (r : EReal)) (b : Fin 16) (h : Fin 12) (r k : Fin 2304) :
    ∃ x : ℝ, scoreOf Q K b h r k = (x : EReal) := by
  choose q hq using hQ
  choose p hp using hK
  refine ⟨∑ d, p b h k d * q b h r d, ?_⟩
  unfold scoreOf
  rw [coe_sum]
  exact Finset.sum_congr rfl fun d _ => by rw [hp, hq, EReal.coe_mul]

/-- So the two results agree. -/
theorem agree (Q K : FVec Ideal S16x12x2304x128 .bf16) (V : FVec Ideal S16x768x2304 .bf16)
    (hQ : ∀ b h k d, ∃ r : ℝ, Q (ix4 b h k d) = (r : EReal)) (hK : ∀ b h k d, ∃ r : ℝ, K (ix4 b h k d) = (r : EReal)) :
    reference Q K V = whole Q K V := by
  funext y
  obtain ⟨b, i, e, j, rfl⟩ : ∃ b i e j, y = (ix4 b i e j : S16x8x768x256.Idx) := ⟨_, _, _, _, eq_ix4 y⟩
  rw [reference_at]
  exact (baseTwo_eq (by decide) _ _ (score_finite Q K hQ hK b _ _)).symm

/-- Every execution of the reference leaves its arguments unchanged and its result array at `reference` of them. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v22)
        = reference (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold reference outputs normalised expLess rowMax scores
  exact Cert.ReferenceIdeal.Value.run (F := Ideal) m ρ

/-- The reference runs without a fault, its arguments unchanged and every counter at zero, -/
theorem quiescent : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (run m g)

/-- under the precondition too. -/
theorem quiescent_pre : Cert.quiescent_ReferenceIdeal_pre_finite_scores (hReferenceIdeal := Cert.ReferenceIdeal.Gen.facts)
    (hPre_finite_scores := Cert.Pre_finite_scores.Att.facts) := fun m g _ =>
  (θ_run Cert.ReferenceIdeal.defs _ _).mono (fun r h => ⟨fun c => (h c).2, sem_eq_zero_of_no_sems (by decide) r.2⟩) (run m g)

/-- At finite queries and keys the kernel's result array is the reference's. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Att.facts) := by
  intro m g m' g' hpre hargs
  refine ⟨fun c => whole (argQ m c) (argK m c) (argV m c), ?_, ?_⟩
  · exact (θ_run Cert.KernelIdeal.defs _ _).mono (fun r h c => ⟨((h.1 c).1).trans (Cert.KernelIdeal.Att.final c m), (h.1 c).2⟩)
      (Cert.KernelIdeal.Att.result m g)
  · refine (θ_run Cert.ReferenceIdeal.defs _ _).mono (fun r h c => ⟨((h c).1).trans ?_, (h c).2⟩) (run m' g')
    obtain ⟨e0, e1, e2⟩ := hargs c
    rw [e0, e1, e2]
    have fin := Cert.Pre_finite_scores.Att.finite _ _ _ (hpre c)
    exact agree _ _ _ (fun b h k d => (fin b h k d).1) (fun b h k d => (fin b h k d).2)

end Cert.ReferenceIdeal.Att
-- ==== Proof.Mrg.Rows.lean ====
/-
  What the body of the output projection leaves in its block, over the extended reals, row by row.
-/
module

public import proofs.«01_k».proof.Proof.Gen.Kernel2Ideal.Value
public import Idealize.ShloMosaic.Lib.Pointwise
public import Idealize.ShloMosaic.Lib.IdealHost

@[expose] public section

set_option maxRecDepth 16384

noncomputable section

namespace Cert.Kernel2Ideal.Mrg

open Cert.Kernel2Ideal Cert.Kernel2Ideal.Gen
open Idealize.ShloMosaic Idealize.ShloMosaic.TcCoe

/-- One tile of 256 rows: the recurrence's rows `og` normed by heads, both parts gated and projected, the residual, the closing norm. -/
def tile {F : FTy → Type} [FloatOps F] (x : Vec F S1x256x1024 .f32) (oa : Vec F S1x1x768x256 .bf16) (og : Vec F S1x256x256 .f32) (sa : Vec F S1x256x768 .bf16)
    (sg : Vec F S1x256x256 .bf16) (gt : Vec F S1x1x1024 .f32) (on : Vec F S1x256 .f32) (gs : Vec F S256x256 .bf16) (wa : Vec F S768x1024 .bf16)
    (wg : Vec F S256x1024 .bf16) (fg : Vec F S1x1024 .f32) : FVec F S1x256x1024 .f32 :=
  k0_pay27 (k0_pay22 (k0_pay9 oa sa) (k0_pay10 (k0_pay1 og) (k0_pay8 og gs) on sg) wa wg) x gt fg

/-- A row of the recurrence's result, normed by heads. -/
def normed (og : Fin 256 → EReal) (on : Fin 256 → EReal) (gs : Fin 256 → Fin 256 → EReal) (k : Fin 256) : EReal :=
  og k * Ideal.rsqrt ((∑ j, og j * og j * gs j k) * Ideal.ofBits FTy.f32 0x3C800000#32 + Ideal.ofBits FTy.f32 0x358637BD#32) * on k

/-- A row of the residual stream after the gated projection. -/
def stream (x : Fin 1024 → EReal) (oa sa : Fin 768 → EReal) (ogn sg : Fin 256 → EReal) (gt : Fin 1024 → EReal) (wa : Fin 768 → Fin 1024 → EReal)
    (wg : Fin 256 → Fin 1024 → EReal) (e : Fin 1024) : EReal :=
  x e + gt e * (∑ k, oa k * sa k * wa k e + ∑ k, ogn k * sg k * wg k e)

/-- A row after the closing norm. -/
def closed (y fg : Fin 1024 → EReal) (e : Fin 1024) : EReal :=
  y e * Ideal.rsqrt (Ideal.div (∑ k, y k * y k) (Ideal.ofBits FTy.f32 0x44800000#32) + Ideal.ofBits FTy.f32 0x358637BD#32) * fg e

/-- A row of the result is a function of the rows and the weights it is made of, entry by entry. -/
theorem row_congr {x x' gt gt' fg fg' : Fin 1024 → EReal} {oa oa' sa sa' : Fin 768 → EReal} {og og' on on' sg sg' : Fin 256 → EReal}
    {gs gs' : Fin 256 → Fin 256 → EReal} {wa wa' : Fin 768 → Fin 1024 → EReal} {wg wg' : Fin 256 → Fin 1024 → EReal}
    (hx : ∀ e, x e = x' e) (hoa : ∀ k, oa k = oa' k) (hsa : ∀ k, sa k = sa' k) (hog : ∀ k, og k = og' k) (hon : ∀ k, on k = on' k)
    (hgs : ∀ j k, gs j k = gs' j k) (hsg : ∀ k, sg k = sg' k) (hgt : ∀ e, gt e = gt' e) (hwa : ∀ k e, wa k e = wa' k e) (hwg : ∀ k e, wg k e = wg' k e)
    (hfg : ∀ e, fg e = fg' e) (e : Fin 1024) :
    closed (stream x oa sa (normed og on gs) sg gt wa wg) fg e = closed (stream x' oa' sa' (normed og' on' gs') sg' gt' wa' wg') fg' e := by
  obtain rfl := funext hx
  obtain rfl := funext hoa
  obtain rfl := funext hsa
  obtain rfl := funext hog
  obtain rfl := funext hon
  obtain rfl := funext fun j => funext (hgs j)
  obtain rfl := funext hsg
  obtain rfl := funext hgt
  obtain rfl := funext fun k => funext (hwa k)
  obtain rfl := funext fun k => funext (hwg k)
  obtain rfl := funext hfg
  rfl

/-- The tile at a row and a column. -/
theorem tile_at (x : Vec Ideal S1x256x1024 .f32) (oa : Vec Ideal S1x1x768x256 .bf16) (og : Vec Ideal S1x256x256 .f32) (sa : Vec Ideal S1x256x768 .bf16)
    (sg : Vec Ideal S1x256x256 .bf16) (gt : Vec Ideal S1x1x1024 .f32) (on : Vec Ideal S1x256 .f32) (gs : Vec Ideal S256x256 .bf16) (wa : Vec Ideal S768x1024 .bf16)
    (wg : Vec Ideal S256x1024 .bf16) (fg : Vec Ideal S1x1024 .f32) (r : Fin 256) (e : Fin 1024) :
    tile x oa og sa sg gt on gs wa wg fg (ix3 0 r e)
      = closed (stream (fun e => x (ix3 0 r e)) (fun k => oa (ix4 0 0 k r)) (fun k => sa (ix3 0 r k))
          (normed (fun k => og (ix3 0 r k)) (fun k => on (ix2 0 k)) fun j k => gs (ix2 j k)) (fun k => sg (ix3 0 r k)) (fun e => gt (ix3 0 0 e))
          (fun k e => wa (ix2 k e)) fun k e => wg (ix2 k e)) (fun e => fg (ix2 0 e)) e := by
  pointwise [tile, k0_pay27, k0_pay22, k0_pay9, k0_pay10, k0_pay1, k0_pay8]
  rfl

end Cert.Kernel2Ideal.Mrg
-- ==== Proof.Mrg.Block.lean ====
/-
  The block that one grid point leaves: four tiles of 256 rows, one under the other.
-/
module

public import proofs.«01_k».proof.Proof.Mrg.Rows
public import Idealize.ShloMosaic.Lib.WritesUnit

@[expose] public section

set_option maxRecDepth 16384

noncomputable section

namespace Cert.Kernel2Ideal.Mrg

open Cert.Kernel2Ideal Cert.Kernel2Ideal.Gen
open Idealize.ShloMosaic Idealize.ShloMosaic.TcCoe

/-- A load from a whole buffer reads its contents at the load's indices. -/
theorem readAt_contents {sig : RefSig} {κ : Kind} {sp : Space} {s : Shape} {e : EltTy} {Val : EltTy → Type} {M : Memref sig κ sp s e}
    (h : M.IsWhole) (X : s.Idx → Val e) (r : Rect s) : M.view.readAt Val r.toLoadRect (h.unread X) = View.ld X r := by
  show View.ld (M.view.read Val (h.unread X)) r = _
  rw [h.read_unread]

variable {F : FTy → Type} [FloatOps F]

theorem rows_in {n o : ℕ} (w o' : ℕ) (h : o + 256 ≤ 1024) (h' : o' + w ≤ n) : ∀ a : Fin 3, (![0, o, o'] : Fin 3 → ℕ) a + (![1, 256, w] : Fin 3 → ℕ) a ≤ (⟨3, ![1, 1024, n]⟩ : Shape).size a := by
  intro a
  match a with
  | ⟨0, _⟩ => show 0 + 1 ≤ 1; omega
  | ⟨1, _⟩ => exact h
  | ⟨2, _⟩ => exact h'

theorem slab_in {s : ℕ} (h : s < 4) : ∀ a : Fin 4, (![0, s, 0, 0] : Fin 4 → ℕ) a + (![1, 1, 768, 256] : Fin 4 → ℕ) a ≤ S1x4x768x256.size a := by
  intro a
  match a with
  | ⟨0, _⟩ => show 0 + 1 ≤ 1; omega
  | ⟨1, _⟩ => show s + 1 ≤ 4; omega
  | ⟨2, _⟩ => show 0 + 768 ≤ 768; omega
  | ⟨3, _⟩ => show 0 + 256 ≤ 256; omega

/-- The tile of slab `s`, its rows from `o` on, from the blocks. -/
def tileOf (s o : ℕ) (hs : s < 4) (ho : o + 256 ≤ 1024) (x0 : Vec F S1x1024x1024 .f32) (x1 : Vec F S1x4x768x256 .bf16) (x2 : Vec F S1x1024x256 .f32) (x3 : Vec F S1x1024x1024 .bf16) (x4 : Vec F S1x1x1024 .f32) (x5 : Vec F S1x256 .f32) (x6 : Vec F S256x256 .bf16) (x7 : Vec F S1024x1024 .bf16) (x8 : Vec F S1x1024 .f32) : FVec F S1x256x1024 .f32 :=
  tile (View.ld x0 (Rect.unit ![0, o, 0] ![1, 256, 1024] (rows_in 1024 0 ho (by decide))))
    (View.ld x1 (Rect.unit ![0, s, 0, 0] ![1, 1, 768, 256] (slab_in hs)))
    (View.ld x2 (Rect.unit ![0, o, 0] ![1, 256, 256] (rows_in 256 0 ho (by decide))))
    (View.ld x3 (Rect.unit ![0, o, 0] ![1, 256, 768] (rows_in 768 0 ho (by decide))))
    (View.ld x3 (Rect.unit ![0, o, 768] ![1, 256, 256] (rows_in 256 768 ho (by decide))))
    (View.ld x4 (Rect.unit ![0, 0, 0] ![1, 1, 1024] inb_S1x1x1024_S1x1x1024_0_0_0)) (View.ld x5 (Rect.unit ![0, 0] ![1, 256] inb_S1x256_S1x256_0_0))
    (View.ld x6 (Rect.unit ![0, 0] ![256, 256] inb_S256x256_S256x256_0_0))
    (View.ld x7 (Rect.unit ![0, 0] ![768, 1024] inb_S1024x1024_S768x1024_0_0))
    (View.ld x7 (Rect.unit ![768, 0] ![256, 1024] inb_S1024x1024_S256x1024_768_0)) (View.ld x8 (Rect.unit ![0, 0] ![1, 1024] inb_S1x1024_S1x1024_0_0))

/-- What the body leaves in its block. -/
theorem block_eq (c : Dev nD) (i : grid0.Coords) (arg2 : Memref sig .tc .vmem S1x1024x1024 .f32) (harg2 : arg2.IsWhole) (arg3 : Memref sig .tc .vmem S1x4x768x256 .bf16) (harg3 : arg3.IsWhole) (arg4 : Memref sig .tc .vmem S1x1024x256 .f32) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024x1024 .f32) (harg11 : arg11.IsWhole)
    (x0 : Vec F S1x1024x1024 .f32) (x1 : Vec F S1x4x768x256 .bf16) (x2 : Vec F S1x1024x256 .f32) (x3 : Vec F S1x1024x1024 .bf16) (x4 : Vec F S1x1x1024 .f32) (x5 : Vec F S1x256 .f32) (x6 : Vec F S256x256 .bf16) (x7 : Vec F S1024x1024 .bf16) (x8 : Vec F S1x1024 .f32) :
    out0_A_9 c i arg2 harg2 arg3 harg3 arg4 harg4 arg5 harg5 arg6 harg6 arg7 harg7 arg8 harg8 arg9 harg9 arg10 harg10 arg11 harg11 x0 x1 x2 x3 x4 x5 x6 x7 x8
      = VO0_9.read (Elt F) (VO0_9.writes (Elt F) VO0_9.junk
        [⟨Rect.unit ![0, 768, 0] ![1, 256, 1024] inb_S1x1024x1024_S1x256x1024_0_768_0, tileOf 3 768 (by decide) (by decide) x0 x1 x2 x3 x4 x5 x6 x7 x8⟩,
         ⟨Rect.unit ![0, 512, 0] ![1, 256, 1024] inb_S1x1024x1024_S1x256x1024_0_512_0, tileOf 2 512 (by decide) (by decide) x0 x1 x2 x3 x4 x5 x6 x7 x8⟩,
         ⟨Rect.unit ![0, 256, 0] ![1, 256, 1024] inb_S1x1024x1024_S1x256x1024_0_256_0, tileOf 1 256 (by decide) (by decide) x0 x1 x2 x3 x4 x5 x6 x7 x8⟩,
         ⟨Rect.unit ![0, 0, 0] ![1, 256, 1024] inb_S1x1024x1024_S1x256x1024_0_0_0, tileOf 0 0 (by decide) (by decide) x0 x1 x2 x3 x4 x5 x6 x7 x8⟩]) := by
  unfold out0_A_9 kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, readAt_contents]
  rfl

/-- Two indices with the same coordinates are equal. -/
theorem ix2_ext {m n : ℕ} {a b : (⟨2, ![m, n]⟩ : Shape).Idx} (h0 : (a 0).val = (b 0).val) (h1 : (a 1).val = (b 1).val) : a = b :=
  funext fun x => Fin.ext (match x with | ⟨0, _⟩ => h0 | ⟨1, _⟩ => h1)

theorem ix3_ext {l m n : ℕ} {a b : (⟨3, ![l, m, n]⟩ : Shape).Idx} (h0 : (a 0).val = (b 0).val) (h1 : (a 1).val = (b 1).val) (h2 : (a 2).val = (b 2).val) : a = b :=
  funext fun x => Fin.ext (match x with | ⟨0, _⟩ => h0 | ⟨1, _⟩ => h1 | ⟨2, _⟩ => h2)

theorem ix4_ext {l m n o : ℕ} {a b : (⟨4, ![l, m, n, o]⟩ : Shape).Idx} (h0 : (a 0).val = (b 0).val) (h1 : (a 1).val = (b 1).val) (h2 : (a 2).val = (b 2).val)
    (h3 : (a 3).val = (b 3).val) : a = b :=
  funext fun x => Fin.ext (match x with | ⟨0, _⟩ => h0 | ⟨1, _⟩ => h1 | ⟨2, _⟩ => h2 | ⟨3, _⟩ => h3)

/-- A row of the block, from the blocks' rows. -/
def blockRow (x0 : Vec Ideal S1x1024x1024 .f32) (x1 : Vec Ideal S1x4x768x256 .bf16) (x2 : Vec Ideal S1x1024x256 .f32) (x3 : Vec Ideal S1x1024x1024 .bf16) (x4 : Vec Ideal S1x1x1024 .f32) (x5 : Vec Ideal S1x256 .f32) (x6 : Vec Ideal S256x256 .bf16) (x7 : Vec Ideal S1024x1024 .bf16) (x8 : Vec Ideal S1x1024 .f32) (R : Fin 1024) (e : Fin 1024) : EReal :=
  closed (stream (fun e => x0 (ix3 0 R e)) (fun k => x1 (ix4 0 ⟨R.val / 256, by omega⟩ k ⟨R.val % 256, by omega⟩)) (fun k => x3 (ix3 0 R ⟨k.val, by omega⟩))
    (normed (fun k => x2 (ix3 0 R k)) (fun k => x5 (ix2 0 k)) fun j k => x6 (ix2 j k)) (fun k => x3 (ix3 0 R ⟨768 + k.val, by omega⟩)) (fun e => x4 (ix3 0 0 e))
    (fun k e => x7 (ix2 ⟨k.val, by omega⟩ e)) fun k e => x7 (ix2 ⟨768 + k.val, by omega⟩ e)) (fun e => x8 (ix2 0 e)) e

/-- A tile's rows are the block's. -/
theorem tileOf_at (s o : ℕ) (hs : s < 4) (ho : o + 256 ≤ 1024) (hso : o = 256 * s) (x0 : Vec Ideal S1x1024x1024 .f32) (x1 : Vec Ideal S1x4x768x256 .bf16) (x2 : Vec Ideal S1x1024x256 .f32) (x3 : Vec Ideal S1x1024x1024 .bf16) (x4 : Vec Ideal S1x1x1024 .f32) (x5 : Vec Ideal S1x256 .f32) (x6 : Vec Ideal S256x256 .bf16) (x7 : Vec Ideal S1024x1024 .bf16) (x8 : Vec Ideal S1x1024 .f32) (r : Fin 256) (e : Fin 1024) :
    tileOf s o hs ho x0 x1 x2 x3 x4 x5 x6 x7 x8 (ix3 0 r e) = blockRow x0 x1 x2 x3 x4 x5 x6 x7 x8 ⟨o + r.val, by omega⟩ e := by
  unfold tileOf blockRow
  rw [tile_at]
  have hd : (⟨s, hs⟩ : Fin 4) = ⟨(o + r.val) / 256, by omega⟩ := Fin.ext (by show s = (o + r.val) / 256; omega)
  have hm : r = ⟨(o + r.val) % 256, by omega⟩ := Fin.ext (by show r.val = (o + r.val) % 256; omega)
  have h0 : ∀ {n : ℕ} (k : Fin n), 0 + 1 * k.val = k.val := fun k => by omega
  have h1 : ∀ (a : ℕ) {n : ℕ} (k : Fin n), a + 1 * k.val = a + k.val := fun a _ k => by omega
  rw [← hd, ← hm]
  refine row_congr (fun e => ?_) (fun k => ?_) (fun k => ?_) (fun k => ?_) (fun k => ?_) (fun j k => ?_) (fun k => ?_) (fun e => ?_) (fun k e => ?_) (fun k e => ?_) (fun e => ?_) e
  · exact congrArg x0 (ix3_ext rfl (h1 _ _) (h0 _))
  · exact congrArg x1 (ix4_ext rfl rfl (h0 _) (h0 _))
  · exact congrArg x3 (ix3_ext rfl (h1 _ _) (h0 _))
  · exact congrArg x2 (ix3_ext rfl (h1 _ _) (h0 _))
  · exact congrArg x5 (ix2_ext rfl (h0 _))
  · exact congrArg x6 (ix2_ext (h0 _) (h0 _))
  · exact congrArg x3 (ix3_ext rfl (h1 _ _) (h1 _ _))
  · exact congrArg x4 (ix3_ext rfl rfl (h0 _))
  · exact congrArg x7 (ix2_ext (h0 _) (h0 _))
  · exact congrArg x7 (ix2_ext (h1 _ _) (h0 _))
  · exact congrArg x8 (ix2_ext rfl (h0 _))

/-- What the body leaves at a row and a column. -/
theorem block_at (c : Dev nD) (i : grid0.Coords) (arg2 : Memref sig .tc .vmem S1x1024x1024 .f32) (harg2 : arg2.IsWhole) (arg3 : Memref sig .tc .vmem S1x4x768x256 .bf16) (harg3 : arg3.IsWhole) (arg4 : Memref sig .tc .vmem S1x1024x256 .f32) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x256 .f32) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024x1024 .f32) (harg11 : arg11.IsWhole)
    (x0 : Vec Ideal S1x1024x1024 .f32) (x1 : Vec Ideal S1x4x768x256 .bf16) (x2 : Vec Ideal S1x1024x256 .f32) (x3 : Vec Ideal S1x1024x1024 .bf16) (x4 : Vec Ideal S1x1x1024 .f32) (x5 : Vec Ideal S1x256 .f32) (x6 : Vec Ideal S256x256 .bf16) (x7 : Vec Ideal S1024x1024 .bf16) (x8 : Vec Ideal S1x1024 .f32) (R e : Fin 1024) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 x8 (ix3 0 R e)
      = blockRow x0 x1 x2 x3 x4 x5 x6 x7 x8 R e := by
  rw [block_eq]
  have step : ∀ (s o : ℕ) (hs : s < 4) (ho : o + 256 ≤ 1024) (hso : o = 256 * s) (L : List (View.Piece (Elt Ideal) S1x1024x1024 .f32)),
      (R.val < o → VO0_9.read (Elt Ideal) (VO0_9.writes (Elt Ideal) VO0_9.junk L) (ix3 0 R e) = blockRow x0 x1 x2 x3 x4 x5 x6 x7 x8 R e) → R.val < o + 256 →
      VO0_9.read (Elt Ideal) (VO0_9.writes (Elt Ideal) VO0_9.junk (⟨Rect.unit ![0, o, 0] ![1, 256, 1024] (rows_in 1024 0 ho (by decide)), tileOf s o hs ho x0 x1 x2 x3 x4 x5 x6 x7 x8⟩ :: L)) (ix3 0 R e)
        = blockRow x0 x1 x2 x3 x4 x5 x6 x7 x8 R e := by
    intro s o hs ho hso L hL hR
    by_cases h : R.val < o
    · refine (View.read_writes_cons_unit_of_not_mem _ _ _ _ L _ rfl 1 (Or.inl h)).trans (hL h)
    · have hr : R.val - o < 256 := by omega
      refine (View.read_writes_cons_unit_of_mem _ _ _ _ L (ix3 0 R e) (ix3 0 ⟨R.val - o, hr⟩ e) rfl ?_).trans ?_
      · intro a
        match a with
        | ⟨0, _⟩ => rfl
        | ⟨1, _⟩ => show R.val = o + (R.val - o); omega
        | ⟨2, _⟩ => show e.val = 0 + e.val; omega
      · rw [tileOf_at s o hs ho hso]
        congr 1
        exact Fin.ext (by show o + (R.val - o) = R.val; omega)
  refine step 3 768 _ _ rfl _ (fun h => step 2 512 _ _ rfl _ (fun h => step 1 256 _ _ rfl _ (fun h => step 0 0 _ _ rfl _ (fun h => absurd h (Nat.not_lt_zero _)) h) h) h) R.isLt

end Cert.Kernel2Ideal.Mrg
-- ==== Proof.Mrg.Result.lean ====
/-
  The result array as a function of the arguments, over the extended reals: every row is the residual stream after the gated
  projection, under the closing norm.
-/
module

public import proofs.«01_k».proof.Proof.Mrg.Block
public import Idealize.ShloMosaic.Lib.Pipeline.Value

@[expose] public section

set_option maxRecDepth 16384

noncomputable section

namespace Cert.Kernel2Ideal.Mrg

open Cert.Kernel2Ideal Cert.Kernel2Ideal.Gen
open Idealize.ShloMosaic
open Idealize.ShloMosaic.TcCoe

/-! ## Where the blocks lie -/

/-- Where point `t`'s block of each array lies: batch `t / 2`, half `t % 2` of the rows; of the gains and weights, all. -/
theorem index_x : ∀ t : Fin cfg0.N, win0_0.index t 0 = t.val / 2 ∧ win0_0.index t 1 = t.val % 2 ∧ win0_0.index t 2 = 0 := by decide +kernel
theorem index_a : ∀ t : Fin cfg0.N, win0_1.index t 0 = t.val / 2 ∧ win0_1.index t 1 = t.val % 2 ∧ win0_1.index t 2 = 0 ∧ win0_1.index t 3 = 0 := by decide +kernel
theorem index_g : ∀ t : Fin cfg0.N, win0_2.index t 0 = t.val / 2 ∧ win0_2.index t 1 = t.val % 2 ∧ win0_2.index t 2 = 0 := by decide +kernel
theorem index_s : ∀ t : Fin cfg0.N, win0_3.index t 0 = t.val / 2 ∧ win0_3.index t 1 = t.val % 2 ∧ win0_3.index t 2 = 0 := by decide +kernel
theorem index_t : ∀ t : Fin cfg0.N, win0_4.index t 0 = t.val / 2 ∧ win0_4.index t 1 = 0 ∧ win0_4.index t 2 = 0 := by decide +kernel
theorem index_on : ∀ t : Fin cfg0.N, win0_5.index t 0 = 0 ∧ win0_5.index t 1 = 0 := by decide +kernel
theorem index_gs : ∀ t : Fin cfg0.N, win0_6.index t 0 = 0 ∧ win0_6.index t 1 = 0 := by decide +kernel
theorem index_w : ∀ t : Fin cfg0.N, win0_7.index t 0 = 0 ∧ win0_7.index t 1 = 0 := by decide +kernel
theorem index_fg : ∀ t : Fin cfg0.N, win0_8.index t 0 = 0 ∧ win0_8.index t 1 = 0 := by decide +kernel
theorem index_y : ∀ t : Fin cfg0.N, win0_9.index t 0 = t.val / 2 ∧ win0_9.index t 1 = t.val % 2 ∧ win0_9.index t 2 = 0 := by decide +kernel
theorem size_y : ∀ t : Fin cfg0.N, win0_9.xsize (grid0.coords t) 0 = 1 ∧ win0_9.xsize (grid0.coords t) 1 = 1024 ∧ win0_9.xsize (grid0.coords t) 2 = 1024 := by decide +kernel

/-- There are 32 points. -/
theorem point_lt (t : Fin cfg0.N) : t.val < 32 := t.isLt.trans_eq N_0

variable (m : (ℓ : Loc nD τ sig) → Buf (Elt Ideal) ℓ) (c : Dev nD) (t : Fin cfg0.N)

/-- The residual stream, -/
def argX : FVec Ideal S16x2048x1024 .f32 := m ((c.tc : Thread nD τ).loc main_arg0)
/-- the attention's result, -/
def argA : FVec Ideal S16x8x768x256 .bf16 := m ((c.tc : Thread nD τ).loc main_arg1)
/-- the recurrence's result, -/
def argG : FVec Ideal S16x2304x256 .f32 := m ((c.tc : Thread nD τ).loc main_arg2)
/-- the gate, -/
def argS : FVec Ideal S16x2304x1024 .bf16 := m ((c.tc : Thread nD τ).loc main_arg3)
/-- the residual's scale, -/
def argT : FVec Ideal S16x1x1024 .f32 := m ((c.tc : Thread nD τ).loc main_arg4)
/-- the gain of the heads' norm, -/
def argOn : FVec Ideal S64 .f32 := m ((c.tc : Thread nD τ).loc main_arg5)
/-- the projection, -/
def argW : FVec Ideal S1024x1024 .f32 := m ((c.tc : Thread nD τ).loc main_arg6)
/-- the gain of the closing norm. -/
def argF : FVec Ideal S1024 .f32 := m ((c.tc : Thread nD τ).loc main_arg7)

/-! ## The arrays made before the launch -/

/-- The heads' gain, once for each head. -/
theorem gain_at (k : Fin 256) : (V m c main_v13 : FVec Ideal S1x256 .f32) (ix2 0 k) = argOn m c (ix1 ⟨k.val % 64, by omega⟩) := by
  have e : (V m c main_v13 : FVec Ideal S1x256 .f32) = shapeCast _ (shapeCast _ (broadcastInDim S4x64 ![0, 1] bcast_S1x64_S4x64_0_1
      (shapeCast _ (argOn m c) shapeCasts_S64_S1x64)) shapeCasts_S4x64_S256) shapeCasts_S256_S1x256 := by
    unfold V
    after_results_simp
    rfl
  rw [e]
  pointwise

/-- The closing norm's gain, as a row. -/
theorem closing_at (k : Fin 1024) : (V m c main_v16 : FVec Ideal S1x1024 .f32) (ix2 0 k) = argF m c (ix1 k) := by
  have e : (V m c main_v16 : FVec Ideal S1x1024 .f32) = shapeCast _ (argF m c) shapeCasts_S1024_S1x1024 := by
    unfold V
    after_results_simp
    rfl
  rw [e]
  pointwise

/-- The projection. -/
theorem weight_at (k e : Fin 1024) : (V m c main_v14 : FVec Ideal S1024x1024 .bf16) (ix2 k e) = argW m c (ix2 k e) := by
  have h : (V m c main_v14 : FVec Ideal S1024x1024 .bf16) = (truncf .bf16 (argW m c) bitsLt_bf16_f32 : FVec Ideal S1024x1024 .bf16) := by
    unfold V
    after_results_simp
    rfl
  rw [h]
  pointwise

/-- One where two channels are of one head, else zero. -/
def sameHead (j k : Fin 256) : EReal := if j.val / 64 = k.val / 64 then 1 else 0

/-- The matrix of head sums. -/
theorem heads_at (j k : Fin 256) : (V m c main_v15 : FVec Ideal S256x256 .bf16) (ix2 j k) = sameHead j k := by
  have e : (V m c main_v15 : FVec Ideal S256x256 .bf16) = extractStridedSlice S256x256 ![0, 0] (truncf .bf16 (shapeCast S384x384
      (broadcastInDim S6x64x6x64 ![0, 1, 2, 3] bcast_S6x1x6x1_S6x64x6x64_0_1_2_3 (broadcastInDim S6x1x6x1 ![0, 2] bcast_S6x6_S6x1x6x1_0_2
        (uitofp .f32 (cmpi .eq (addi (iotaInDim S6x6 32 0) (broadcastInDim S6x6 ![] bcast_S_S6x6 (constantI S_ 32 0#32))) (iotaInDim S6x6 32 1))
          : FVec Ideal S6x6 .f32)) : FVec Ideal S6x64x6x64 .f32) shapeCasts_S6x64x6x64_S384x384) bitsLt_bf16_f32) slices_S384x384_S256x256_0_0 := by
    unfold V
    after_results_simp
    rfl
  rw [e]
  pointwise
  have hb : ∀ p q : Fin 4, IntOp.cmpi CmpIPredicate.eq (IntOp.addi (BitVec.ofNat 32 p.val) 0#32) (BitVec.ofNat 32 q.val) = if p.val = q.val then 1#1 else 0#1 := by decide
  have hjk := hb ⟨j.val / 64, by omega⟩ ⟨k.val / 64, by omega⟩
  dsimp only at hjk
  rw [hjk]
  unfold sameHead
  split
  · show ((((1#1 : BitVec 1).toNat : ℝ)) : EReal) = 1
    simp
  · show ((((0#1 : BitVec 1).toNat : ℝ)) : EReal) = 0
    simp

/-! ## The blocks -/

/-- Point `t` works on batch `t / 2`, -/
def bat : Fin 16 := ⟨t.val / 2, by have := point_lt t; omega⟩

/-- its row `R` being row `1024 (t % 2) + R` of 2048. -/
def row (R : Fin 1024) : Fin 2048 := ⟨1024 * (t.val % 2) + R.val, by omega⟩

/-- The same of the 2304 rows that the recurrence and the gate have. -/
def wide (R : Fin 2048) : Fin 2304 := ⟨R.val, by omega⟩

/-- The residual stream's block, -/
theorem x_at (R e : Fin 1024) : (iblk m c 0 t : Vec Ideal S1x1024x1024 .f32) (ix3 0 R e) = argX m c (ix3 (bat t) (row t R) e) := by
  obtain ⟨h0, h1, h2⟩ := index_x t
  unfold iblk
  rw [View.read_apply]
  show V m c main_arg0 _ = _
  rw [V_main_arg0]
  refine congrArg (argX m c) (ix3_ext ?_ ?_ ?_)
  · show win0_0.index t 0 * 1 + 1 * 0 = t.val / 2; omega
  · show win0_0.index t 1 * 1024 + 1 * R.val = 1024 * (t.val % 2) + R.val; omega
  · show win0_0.index t 2 * 1024 + 1 * e.val = e.val; omega

/-- the attention's, four of its tiles, -/
theorem a_at (s : Fin 4) (k : Fin 768) (r : Fin 256) :
    (iblk m c 1 t : Vec Ideal S1x4x768x256 .bf16) (ix4 0 s k r) = argA m c (ix4 (bat t) ⟨4 * (t.val % 2) + s.val, by omega⟩ k r) := by
  obtain ⟨h0, h1, h2, h3⟩ := index_a t
  unfold iblk
  rw [View.read_apply]
  show V m c main_arg1 _ = _
  rw [V_main_arg1]
  refine congrArg (argA m c) (ix4_ext ?_ ?_ ?_ ?_)
  · show win0_1.index t 0 * 1 + 1 * 0 = t.val / 2; omega
  · show win0_1.index t 1 * 4 + 1 * s.val = 4 * (t.val % 2) + s.val; omega
  · show win0_1.index t 2 * 768 + 1 * k.val = k.val; omega
  · show win0_1.index t 3 * 256 + 1 * r.val = r.val; omega

/-- the recurrence's, -/
theorem g_at (R : Fin 1024) (k : Fin 256) : X0_2 m c t (ix3 0 R k) = argG m c (ix3 (bat t) (wide (row t R)) k) := by
  obtain ⟨h0, h1, h2⟩ := index_g t
  unfold X0_2 Pipeline.Window.fill
  rw [dif_pos (moved0_2 t (ix3 0 R k))]
  unfold iblk
  rw [View.read_apply]
  show V m c main_arg2 _ = _
  rw [V_main_arg2]
  refine congrArg (argG m c) (ix3_ext ?_ ?_ ?_)
  · show win0_2.index t 0 * 1 + 1 * 0 = t.val / 2; omega
  · show win0_2.index t 1 * 1024 + 1 * R.val = 1024 * (t.val % 2) + R.val; omega
  · show win0_2.index t 2 * 256 + 1 * k.val = k.val; omega

/-- the gate's, -/
theorem s_at (R k : Fin 1024) : X0_3 m c t (ix3 0 R k) = argS m c (ix3 (bat t) (wide (row t R)) k) := by
  obtain ⟨h0, h1, h2⟩ := index_s t
  unfold X0_3 Pipeline.Window.fill
  rw [dif_pos (moved0_3 t (ix3 0 R k))]
  unfold iblk
  rw [View.read_apply]
  show V m c main_arg3 _ = _
  rw [V_main_arg3]
  refine congrArg (argS m c) (ix3_ext ?_ ?_ ?_)
  · show win0_3.index t 0 * 1 + 1 * 0 = t.val / 2; omega
  · show win0_3.index t 1 * 1024 + 1 * R.val = 1024 * (t.val % 2) + R.val; omega
  · show win0_3.index t 2 * 1024 + 1 * k.val = k.val; omega

/-- the residual's scale, -/
theorem t_at (e : Fin 1024) : (iblk m c 4 t : Vec Ideal S1x1x1024 .f32) (ix3 0 0 e) = argT m c (ix3 (bat t) 0 e) := by
  obtain ⟨h0, h1, h2⟩ := index_t t
  unfold iblk
  rw [View.read_apply]
  show V m c main_arg4 _ = _
  rw [V_main_arg4]
  refine congrArg (argT m c) (ix3_ext ?_ ?_ ?_)
  · show win0_4.index t 0 * 1 + 1 * 0 = t.val / 2; omega
  · show win0_4.index t 1 * 1 + 1 * 0 = 0; omega
  · show win0_4.index t 2 * 1024 + 1 * e.val = e.val; omega

/-- the heads' gain, -/
theorem on_at (k : Fin 256) : (iblk m c 5 t : Vec Ideal S1x256 .f32) (ix2 0 k) = argOn m c (ix1 ⟨k.val % 64, by omega⟩) := by
  obtain ⟨h0, h1⟩ := index_on t
  unfold iblk
  rw [View.read_apply]
  refine Eq.trans (congrArg (V m c main_v13 : FVec Ideal S1x256 .f32) (ix2_ext ?_ ?_)) (gain_at m c k)
  · show win0_5.index t 0 * 1 + 1 * 0 = 0; omega
  · show win0_5.index t 1 * 256 + 1 * k.val = k.val; omega

/-- the head sums, -/
theorem gs_at (j k : Fin 256) : (iblk m c 6 t : Vec Ideal S256x256 .bf16) (ix2 j k) = sameHead j k := by
  obtain ⟨h0, h1⟩ := index_gs t
  unfold iblk
  rw [View.read_apply]
  refine Eq.trans (congrArg (V m c main_v15 : FVec Ideal S256x256 .bf16) (ix2_ext ?_ ?_)) (heads_at m c j k)
  · show win0_6.index t 0 * 256 + 1 * j.val = j.val; omega
  · show win0_6.index t 1 * 256 + 1 * k.val = k.val; omega

/-- the projection, -/
theorem w_at (k e : Fin 1024) : (iblk m c 7 t : Vec Ideal S1024x1024 .bf16) (ix2 k e) = argW m c (ix2 k e) := by
  obtain ⟨h0, h1⟩ := index_w t
  unfold iblk
  rw [View.read_apply]
  refine Eq.trans (congrArg (V m c main_v14 : FVec Ideal S1024x1024 .bf16) (ix2_ext ?_ ?_)) (weight_at m c k e)
  · show win0_7.index t 0 * 1024 + 1 * k.val = k.val; omega
  · show win0_7.index t 1 * 1024 + 1 * e.val = e.val; omega

/-- and the closing norm's gain. -/
theorem f_at (e : Fin 1024) : (iblk m c 8 t : Vec Ideal S1x1024 .f32) (ix2 0 e) = argF m c (ix1 e) := by
  obtain ⟨h0, h1⟩ := index_fg t
  unfold iblk
  rw [View.read_apply]
  refine Eq.trans (congrArg (V m c main_v16 : FVec Ideal S1x1024 .f32) (ix2_ext ?_ ?_)) (closing_at m c e)
  · show win0_8.index t 0 * 1 + 1 * 0 = 0; omega
  · show win0_8.index t 1 * 1024 + 1 * e.val = e.val; omega

/-! ## The result -/

/-- The result at batch `b`, row `R`, channel `e`. -/
def merged (X : FVec Ideal S16x2048x1024 .f32) (A : FVec Ideal S16x8x768x256 .bf16) (G : FVec Ideal S16x2304x256 .f32) (S : FVec Ideal S16x2304x1024 .bf16)
    (T : FVec Ideal S16x1x1024 .f32) (On : FVec Ideal S64 .f32) (W : FVec Ideal S1024x1024 .f32) (Fg : FVec Ideal S1024 .f32)
    (b : Fin 16) (R : Fin 2048) (e : Fin 1024) : EReal :=
  closed (stream (fun e => X (ix3 b R e)) (fun k => A (ix4 b ⟨R.val / 256, by omega⟩ k ⟨R.val % 256, by omega⟩)) (fun k => S (ix3 b (wide R) ⟨k.val, by omega⟩))
    (normed (fun k => G (ix3 b (wide R) k)) (fun k => On (ix1 ⟨k.val % 64, by omega⟩)) sameHead) (fun k => S (ix3 b (wide R) ⟨768 + k.val, by omega⟩))
    (fun e => T (ix3 b 0 e)) (fun k e => W (ix2 ⟨k.val, by omega⟩ e)) fun k e => W (ix2 ⟨768 + k.val, by omega⟩ e)) (fun e => Fg (ix1 e)) e

/-- The result array. -/
def whole (X : FVec Ideal S16x2048x1024 .f32) (A : FVec Ideal S16x8x768x256 .bf16) (G : FVec Ideal S16x2304x256 .f32) (S : FVec Ideal S16x2304x1024 .bf16)
    (T : FVec Ideal S16x1x1024 .f32) (On : FVec Ideal S64 .f32) (W : FVec Ideal S1024x1024 .f32) (Fg : FVec Ideal S1024 .f32) : FVec Ideal S16x2048x1024 .f32 :=
  fun y => merged X A G S T On W Fg (y 0) (y 1) (y 2)

/-- The result array of the arguments in memory. -/
def wholeOf : FVec Ideal S16x2048x1024 .f32 :=
  whole (argX m c) (argA m c) (argG m c) (argS m c) (argT m c) (argOn m c) (argW m c) (argF m c)

/-- What point `t` leaves in its block: its rows of the result. -/
theorem out_at (R e : Fin 1024) :
    blockRow (iblk m c 0 t) (iblk m c 1 t) (X0_2 m c t) (X0_3 m c t) (iblk m c 4 t) (iblk m c 5 t) (iblk m c 6 t) (iblk m c 7 t) (iblk m c 8 t) R e
      = wholeOf m c (ix3 (bat t) (row t R) e) := by
  unfold blockRow
  refine row_congr (fun e => x_at m c t R e) (fun k => (a_at m c t _ _ _).trans ?_) (fun k => s_at m c t R _) (fun k => g_at m c t R k) (fun k => on_at m c t k)
    (fun j k => gs_at m c t j k) (fun k => s_at m c t R _) (fun e => t_at m c t e) (fun k e => w_at m c t _ e) (fun k e => w_at m c t _ e) (fun e => f_at m c t e) e
  refine congrArg (argA m c) (ix4_ext rfl ?_ rfl ?_)
  · show 4 * (t.val % 2) + R.val / 256 = (1024 * (t.val % 2) + R.val) / 256; omega
  · show R.val % 256 = (1024 * (t.val % 2) + R.val) % 256; omega

/-- What point `t` writes back is its block of the result. -/
theorem flushed_eq : (dats m 0 c).flushed 9 t = ((cfg0.win 9).blk t).view.read (Elt Ideal) (wholeOf m c) := by
  obtain ⟨h0, h1, h2⟩ := index_y t
  rw [Cert.Kernel2Ideal.Value.flushed9_A]
  funext y
  obtain ⟨y0, y1, y2, rfl⟩ : ∃ y0 y1 y2, y = (ix3 y0 y1 y2 : S1x1024x1024.Idx) := ⟨_, _, _, eq_ix3 y⟩
  obtain rfl : y0 = 0 := Subsingleton.elim _ _
  refine ((block_at c _ _ _ _ _ _ _ _ _ _ _ _ _ _ _ _ _ _ _ _ _ _ _ _ _ _ _ _ _ _ y1 y2).trans (out_at m c t y1 y2)).trans ?_
  rw [View.read_apply]
  refine congrArg (wholeOf m c) (ix3_ext ?_ ?_ ?_)
  · show t.val / 2 = win0_9.index t 0 * 1 + 1 * 0; omega
  · show 1024 * (t.val % 2) + y1.val = win0_9.index t 1 * 1024 + 1 * y1.val; omega
  · show y2.val = win0_9.index t 2 * 1024 + 1 * y2.val; omega

/-- The points' blocks fill the result array. -/
theorem final : (dats m 0 c).arrAt 9 cfg0.N = wholeOf m c :=
  (dats m 0 c).arrAt_eq_of_cover 9 (wholeOf m c) (fun t _ => flushed_eq m c t) fun i => by
    have g0 : (i 0 : Nat) < 16 := (i 0).isLt
    have g1 : (i 1 : Nat) < 2048 := (i 1).isLt
    have g2 : (i 2 : Nat) < 1024 := (i 2).isLt
    have hN : 2 * (i 0 : Nat) + (i 1 : Nat) / 1024 < cfg0.N := by rw [show cfg0.N = 32 from N_0]; omega
    set t : Fin cfg0.N := ⟨2 * (i 0 : Nat) + (i 1 : Nat) / 1024, hN⟩ with ht
    have tv : t.val = 2 * (i 0 : Nat) + (i 1 : Nat) / 1024 := rfl
    obtain ⟨h0, h1, h2⟩ := index_y t
    obtain ⟨s0, s1, s2⟩ := size_y t
    refine ⟨t, flush0_9 t, ?_⟩
    show i ∈ ((View.whole main_v17).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + win0_9.xsize (grid0.coords t) 0
                rw [h0, s0, tv]; omega
    | ⟨1, _⟩ => show win0_9.index t 1 * 1024 ≤ (i 1 : Nat) ∧ (i 1 : Nat) < win0_9.index t 1 * 1024 + win0_9.xsize (grid0.coords t) 1
                rw [h1, s1, tv]; omega
    | ⟨2, _⟩ => show win0_9.index t 2 * 1024 ≤ (i 2 : Nat) ∧ (i 2 : Nat) < win0_9.index t 2 * 1024 + win0_9.xsize (grid0.coords t) 2
                rw [h2, s2]; omega

end Cert.Kernel2Ideal.Mrg
-- ==== Proof.Mrg.Reference.lean ====
/-
  The reference of the output projection over the extended reals, element by element.
-/
module

public import proofs.«01_k».proof.Proof.Gen.Reference2Ideal.Run
public import proofs.«01_k».proof.Proof.Mrg.Result

@[expose] public section

set_option maxRecDepth 16384

noncomputable section

namespace Cert.Reference2Ideal.Mrg

open Cert.Reference2Ideal Cert.Reference2Ideal.Gen
open Idealize.ShloMosaic Idealize.ShloMosaic.TcCoe
open Cert.Kernel2Ideal.Mrg (normed stream closed sameHead wide merged)

/-- The attention's result, its tiles back as rows. -/
def rows (A : FVec Ideal S16x8x768x256 .bf16) : FVec Ideal S16x2048x768 .f32 :=
  shapeCast _ (transpose S16x8x256x768 [0, 1, 3, 2] (extf .f32 A bitsLt_bf16_f32) transposes_S16x8x768x256_S16x8x256x768_0_1_3_2) shapeCasts_S16x8x256x768_S16x2048x768

/-- The recurrence's result, by heads. -/
def heads (G : FVec Ideal S16x2304x256 .f32) : FVec Ideal S16x2048x4x64 .f32 :=
  shapeCast _ (extractStridedSlice S16x2048x256 ![0, 0, 0] G slices_S16x2304x256_S16x2048x256_0_0_0) shapeCasts_S16x2048x256_S16x2048x4x64

/-- A root mean square norm over a head's channels. -/
def headNorm (H : FVec Ideal S16x2048x4x64 .f32) (On : FVec Ideal S64 .f32) : FVec Ideal S16x2048x256 .f32 :=
  shapeCast _ (mulf (mulf H (broadcastInDim S16x2048x4x64 ![0, 1, 2, 3] bcast_S16x2048x4x1_S16x2048x4x64_0_1_2_3 (Host.rsqrt (addf (Host.divf
    (broadcastInDim S16x2048x4x1 ![0, 1, 2] bcast_S16x2048x4_S16x2048x4x1_0_1_2 (Host.reduceAdd (mulf H H) (constant S_ .f32 0x00000000#32) reducesTo_S16x2048x4x64_S16x2048x4_d3 h_S_))
    (broadcastInDim S16x2048x4x1 ![] bcast_S_S16x2048x4x1 (constant S_ .f32 0x42800000#32))) (broadcastInDim S16x2048x4x1 ![] bcast_S_S16x2048x4x1 (constant S_ .f32 0x358637BD#32))))))
    (broadcastInDim S16x2048x4x64 ![0, 1, 2, 3] bcast_S1x1x1x64_S16x2048x4x64_0_1_2_3 (broadcastInDim S1x1x1x64 ![3] bcast_S64_S1x1x1x64_3 On))) shapeCasts_S16x2048x4x64_S16x2048x256

/-- Both side by side, gated. -/
def gated (P : FVec Ideal S16x2048x768 .f32) (N : FVec Ideal S16x2048x256 .f32) (S : FVec Ideal S16x2304x1024 .bf16) : FVec Ideal S16x2048x1024 .f32 :=
  mulf (concatenate S16x2048x1024 2 [⟨S16x2048x768, P⟩, ⟨S16x2048x256, N⟩] concatenates_S16x2048x768_S16x2048x256_S16x2048x1024_d2)
    (extf .f32 (extractStridedSlice S16x2048x1024 ![0, 0, 0] S slices_S16x2304x1024_S16x2048x1024_0_0_0) bitsLt_bf16_f32)

/-- The residual stream after the projection. -/
def streamed (X : FVec Ideal S16x2048x1024 .f32) (T : FVec Ideal S16x1x1024 .f32) (M : FVec Ideal S16x2048x1024 .f32) (W : FVec Ideal S1024x1024 .f32) :
    FVec Ideal S16x2048x1024 .f32 :=
  addf X (mulf (broadcastInDim S16x2048x1024 ![0, 1, 2] bcast_S16x1x1024_S16x2048x1024_0_1_2 T) (Host.dotGeneral dot_S16x2048x1024_S1024x1024_S16x2048x1024_2_0_01_1_n_n none M W))

/-- The closing norm. -/
def closing (Y : FVec Ideal S16x2048x1024 .f32) (Fg : FVec Ideal S1024 .f32) : FVec Ideal S16x2048x1024 .f32 :=
  mulf (mulf Y (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf Y Y) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 Fg))

/-- The reference's result as a function of its arguments. -/
def reference (X : FVec Ideal S16x2048x1024 .f32) (A : FVec Ideal S16x8x768x256 .bf16) (G : FVec Ideal S16x2304x256 .f32) (S : FVec Ideal S16x2304x1024 .bf16)
    (T : FVec Ideal S16x1x1024 .f32) (On : FVec Ideal S64 .f32) (W : FVec Ideal S1024x1024 .f32) (Fg : FVec Ideal S1024 .f32) : FVec Ideal S16x2048x1024 .f32 :=
  closing (streamed X T (gated (rows A) (headNorm (heads G) On) S) W) Fg

/-- Row `R` of the attention's result is column `R % 256` of tile `R / 256`. -/
theorem rows_at (A : FVec Ideal S16x8x768x256 .bf16) (b : Fin 16) (R : Fin 2048) (k : Fin 768) :
    rows A (ix3 b R k) = A (ix4 b ⟨R.val / 256, by omega⟩ k ⟨R.val % 256, by omega⟩) := by
  pointwise [rows]

/-- Channel `d` of head `h` is channel `64 h + d`. -/
theorem heads_at (G : FVec Ideal S16x2304x256 .f32) (b : Fin 16) (R : Fin 2048) (h : Fin 4) (d : Fin 64) :
    heads G (ix4 b R h d) = G (ix3 b (wide R) ⟨h.val * 64 + d.val, by omega⟩) := by
  pointwise [heads]
  rfl

/-- The norm by heads at a row and a channel. -/
theorem headNorm_at (H : FVec Ideal S16x2048x4x64 .f32) (On : FVec Ideal S64 .f32) (b : Fin 16) (R : Fin 2048) (k : Fin 256) :
    headNorm H On (ix3 b R k) = H (ix4 b R ⟨k.val / 64, by omega⟩ ⟨k.val % 64, by omega⟩)
      * Ideal.rsqrt (Ideal.div (∑ d, H (ix4 b R ⟨k.val / 64, by omega⟩ d) * H (ix4 b R ⟨k.val / 64, by omega⟩ d)) (Ideal.ofBits FTy.f32 0x42800000#32)
          + Ideal.ofBits FTy.f32 0x358637BD#32) * On (ix1 ⟨k.val % 64, by omega⟩) := by
  pointwise [headNorm]

/-- The gated rows: the first 768 channels are the attention's, -/
theorem gated_lo (P : FVec Ideal S16x2048x768 .f32) (N : FVec Ideal S16x2048x256 .f32) (S : FVec Ideal S16x2304x1024 .bf16) (b : Fin 16) (R : Fin 2048) (k : Fin 768) :
    gated P N S (ix3 b R ⟨k.val, by omega⟩) = P (ix3 b R k) * S (ix3 b (wide R) ⟨k.val, by omega⟩) := by
  pointwise [gated]
  rfl

/-- the last 256 the recurrence's. -/
theorem gated_hi (P : FVec Ideal S16x2048x768 .f32) (N : FVec Ideal S16x2048x256 .f32) (S : FVec Ideal S16x2304x1024 .bf16) (b : Fin 16) (R : Fin 2048) (k : Fin 256) :
    gated P N S (ix3 b R ⟨768 + k.val, by omega⟩) = N (ix3 b R k) * S (ix3 b (wide R) ⟨768 + k.val, by omega⟩) := by
  pointwise [gated]
  rfl

/-- The stream at a row and a channel. -/
theorem streamed_at (X : FVec Ideal S16x2048x1024 .f32) (T : FVec Ideal S16x1x1024 .f32) (M : FVec Ideal S16x2048x1024 .f32) (W : FVec Ideal S1024x1024 .f32)
    (b : Fin 16) (R : Fin 2048) (e : Fin 1024) :
    streamed X T M W (ix3 b R e) = X (ix3 b R e) + T (ix3 b 0 e) * ∑ k, M (ix3 b R k) * W (ix2 k e) := by
  pointwise [streamed]

/-- The closing norm at a row and a channel. -/
theorem closing_at (Y : FVec Ideal S16x2048x1024 .f32) (Fg : FVec Ideal S1024 .f32) (b : Fin 16) (R : Fin 2048) (e : Fin 1024) :
    closing Y Fg (ix3 b R e) = closed (fun e => Y (ix3 b R e)) (fun e => Fg (ix1 e)) e := by
  pointwise [closing]
  rfl

end Cert.Reference2Ideal.Mrg
-- ==== Proof.Mrg.Value.lean ====
/-
  The value claim of the output projection: the kernel and the reference leave the same result array.
-/
module

public import proofs.«01_k».proof.Proof.Mrg.Reference
public import proofs.«01_k».proof.Defs

@[expose] public section

set_option maxRecDepth 16384

noncomputable section

namespace Cert.Reference2Ideal.Mrg

open Idealize.ShloMosaic Idealize.ShloMosaic.TcCoe
open Cert.Reference2Ideal
open Cert.Kernel2Ideal.Mrg (normed stream closed sameHead wide merged whole wholeOf)

/-- A sum over 256 channels of the terms of one head is the sum over the head's 64 channels. -/
theorem head_sum (f : Fin 256 → EReal) (k : Fin 256) : ∑ j, f j * sameHead j k = ∑ d : Fin 64, f ⟨k.val / 64 * 64 + d.val, by omega⟩ := by
  rw [← (finProdFinEquiv (m := 4) (n := 64)).sum_comp fun j => f j * sameHead j k, Fintype.sum_prod_type]
  rw [Finset.sum_eq_single (⟨k.val / 64, by omega⟩ : Fin 4)]
  · refine Finset.sum_congr rfl fun d _ => ?_
    have e : (finProdFinEquiv ((⟨k.val / 64, by omega⟩ : Fin 4), d) : Fin 256) = ⟨k.val / 64 * 64 + d.val, by omega⟩ :=
      Fin.ext (by show d.val + 64 * (k.val / 64) = k.val / 64 * 64 + d.val; omega)
    rw [e]
    unfold sameHead
    rw [if_pos (by show (k.val / 64 * 64 + d.val) / 64 = k.val / 64; omega), mul_one]
  · intro h _ hne
    refine Finset.sum_eq_zero fun d _ => ?_
    unfold sameHead
    rw [if_neg, mul_zero]
    intro hc
    have hc' : (d.val + 64 * h.val) / 64 = k.val / 64 := hc
    exact hne (Fin.ext (by show h.val = k.val / 64; omega))
  · intro h
    exact absurd (Finset.mem_univ _) h

/-- A product with the word of a sixty-fourth is a quotient by the word of sixty-four. -/
theorem mul_sixtyfourth (x : EReal) : x * Ideal.ofBits FTy.f32 0x3C800000#32 = Ideal.div x (Ideal.ofBits FTy.f32 0x42800000#32) := by
  have h1 : Ideal.ofBits FTy.f32 0x42800000#32 = ((64 : ℝ) : EReal) := by
    simp [Ideal.ofBits, Ideal.ieee, -EReal.coe_mul]; norm_num
  have h2 : Ideal.ofBits FTy.f32 0x3C800000#32 = ((1 / 64 : ℝ) : EReal) := by
    simp [Ideal.ofBits, Ideal.ieee, -EReal.coe_mul]; norm_num
  rw [h1, h2]
  unfold Ideal.div
  rw [if_neg (by simp), show (1 / 64 : ℝ) = (64 : ℝ)⁻¹ by norm_num, EReal.coe_inv]

/-- The norm by heads is the kernel's. -/
theorem headNorm_eq (G : FVec Ideal S16x2304x256 .f32) (On : FVec Ideal S64 .f32) (b : Fin 16) (R : Fin 2048) (k : Fin 256) :
    headNorm (heads G) On (ix3 b R k) = normed (fun k => G (ix3 b (wide R) k)) (fun k => On (ix1 ⟨k.val % 64, by omega⟩)) sameHead k := by
  have hk : (⟨k.val / 64 * 64 + k.val % 64, by omega⟩ : Fin 256) = k := Fin.ext (by show k.val / 64 * 64 + k.val % 64 = k.val; omega)
  rw [headNorm_at]
  simp only [heads_at]
  unfold normed
  rw [head_sum (fun j => G (ix3 b (wide R) j) * G (ix3 b (wide R) j)), mul_sixtyfourth, hk]

/-- A sum over 1024 channels is one over the first 768 and one over the last 256. -/
theorem split_sum (f : Fin 1024 → EReal) : ∑ k, f k = ∑ k : Fin 768, f ⟨k.val, by omega⟩ + ∑ k : Fin 256, f ⟨768 + k.val, by omega⟩ :=
  Fin.sum_univ_add (a := 768) (b := 256) f

/-- The two results agree. -/
theorem agree (X : FVec Ideal S16x2048x1024 .f32) (A : FVec Ideal S16x8x768x256 .bf16) (G : FVec Ideal S16x2304x256 .f32) (S : FVec Ideal S16x2304x1024 .bf16)
    (T : FVec Ideal S16x1x1024 .f32) (On : FVec Ideal S64 .f32) (W : FVec Ideal S1024x1024 .f32) (Fg : FVec Ideal S1024 .f32) :
    reference X A G S T On W Fg = whole X A G S T On W Fg := by
  funext y
  obtain ⟨b, R, e, rfl⟩ : ∃ b R e, y = (ix3 b R e : S16x2048x1024.Idx) := ⟨_, _, _, eq_ix3 y⟩
  unfold reference
  rw [closing_at]
  show _ = merged X A G S T On W Fg b R e
  unfold merged
  refine congrArg (fun s => closed s (fun e => Fg (ix1 e)) e) (funext fun e => ?_)
  rw [streamed_at, split_sum]
  simp only [gated_lo, gated_hi, rows_at, headNorm_eq]
  rfl

/-- Every execution of the reference leaves its arguments unchanged and its result array at `reference` of them. -/
theorem run (m : (ℓ : Loc nD τ sig) → Buf (Elt Ideal) ℓ) (ρ : Dev nD → PrngReg) :
    θ_run (Cert.Reference2Ideal.defs (F := Ideal)) (onTc (τ := τ) (main (F := Ideal))) ⟨m, fun _ => 0, ρ⟩ fun r => ∀ c : Dev nD,
      r.2.mem ((c.tc : Thread nD τ).loc main_v39)
        = reference (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  unfold reference closing streamed gated headNorm heads rows
  exact Cert.Reference2Ideal.Value.run (F := Ideal) m ρ

/-- The reference runs without a fault, its arguments unchanged and every counter at zero. -/
theorem quiescent : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (run m g)

/-- The kernel's result array is the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => wholeOf m c, ?_, ?_⟩
  · exact (θ_run Cert.Kernel2Ideal.defs _ _).mono (fun r h c => ⟨((h c).1).trans (Cert.Kernel2Ideal.Mrg.final m c), (h c).2⟩)
      (Cert.Kernel2Ideal.Value.run_blocks m g)
  · refine (θ_run Cert.Reference2Ideal.defs _ _).mono (fun r h c => ⟨((h c).1).trans ?_, (h c).2⟩) (run m' g')
    obtain ⟨e0, e1, e2, e3, e4, e5, e6, e7⟩ := hargs c
    rw [e0, e1, e2, e3, e4, e5, e6, e7]
    exact agree _ _ _ _ _ _ _ _

end Cert.Reference2Ideal.Mrg
-- ==== Proof.Prj.Rows.lean ====
/-
  What the body of the input projection computes for one tile of 256 rows, over the extended reals, row by row: the hidden rows, the
  silu of the gate, and the values of both kinds of heads.
-/
module

public import proofs.«01_k».proof.Proof.Gen.Kernel3Ideal.Skeleton
public import Idealize.ShloMosaic.Lib.Pointwise
public import Idealize.ShloMosaic.Lib.IdealHost

@[expose] public section

set_option maxRecDepth 16384

noncomputable section

namespace Cert.Kernel3Ideal.Prj

open Cert.Kernel3Ideal Cert.Kernel3Ideal.Gen
open Idealize.ShloMosaic Idealize.ShloMosaic.TcCoe

/-- The hidden rows of tile `n`: those of the context for tile 8, else those of the latents (`xp`, `xn` are the rows around them). -/
def hid {F : FTy → Type} [FloatOps F] (n : BitVec 32) (ctx x : Vec F S1x256x1024 .f32) (xp xn : Vec F S1x8x1024 .f32) (shc : Vec F S1x1024 .f32) (shl : Vec F S1x1x1024 .f32)
    (scc : Vec F S1x1024 .f32) (scl : Vec F S1x1x1024 .f32) (ng : Vec F S1x1024 .f32) : FVec F S256x1024 .bf16 :=
  k0_pay13 (Scalar.cmpi .eq n 8#32) (k0_pay10 n ctx x xp xn) shc shl scc scl ng

/-- The silu of the gate. -/
def gateT {F : FTy → Type} [FloatOps F] (h : FVec F S256x1024 .bf16) (w : Vec F S1024x1024 .bf16) : FVec F S1x256x1024 .bf16 :=
  k0_pay3 (k0_pay34 h w)

/-- The values of the latent heads, transposed. -/
def valT {F : FTy → Type} [FloatOps F] (h : FVec F S256x1024 .bf16) (w : Vec F S1024x256 .bf16) (g : Vec F S1x256 .f32) (wv : Vec F S384x256 .bf16) : FVec F S1x384x256 .bf16 :=
  k0_pay113 (k0_pay112 (k0_pay102 (k0_pay101 (k0_pay21 h w)) g) wv)

/-- The values of a grouped head, transposed: the first key-value head's, -/
def grpT0 {F : FTy → Type} [FloatOps F] (h : FVec F S256x1024 .bf16) (w : Vec F S128x1024 .bf16) : FVec F S1x64x256 .bf16 :=
  k0_pay27 h w

/-- and the second's. -/
def grpT1 {F : FTy → Type} [FloatOps F] (h : FVec F S256x1024 .bf16) (w : Vec F S128x1024 .bf16) : FVec F S1x64x256 .bf16 :=
  k0_pay31 (k0_pay26 h w)

/-- A root mean square norm of a row of 1024 channels, scaled and shifted. -/
def hidRow (x ng sc sh : Fin 1024 → EReal) (e : Fin 1024) : EReal :=
  x e * Ideal.rsqrt (Ideal.div (∑ k, x k * x k) (Ideal.ofBits FTy.f32 0x44800000#32) + Ideal.ofBits FTy.f32 0x358637BD#32) * ng e
    * (1 + sc e) + sh e

/-- The silu. -/
def silu (z : EReal) : EReal := z * Ideal.logistic z

/-- A root mean square norm of a row of 256 channels. -/
def latRow (z g : Fin 256 → EReal) (k : Fin 256) : EReal :=
  z k * Ideal.rsqrt (Ideal.div (∑ j, z j * z j) (Ideal.ofBits FTy.f32 0x43800000#32) + Ideal.ofBits FTy.f32 0x358637BD#32) * g k

/-- The hidden rows of the context's tile. -/
theorem hid_ctx (ctx x : Vec Ideal S1x256x1024 .f32) (xp xn : Vec Ideal S1x8x1024 .f32) (shc : Vec Ideal S1x1024 .f32) (shl : Vec Ideal S1x1x1024 .f32)
    (scc : Vec Ideal S1x1024 .f32) (scl : Vec Ideal S1x1x1024 .f32) (ng : Vec Ideal S1x1024 .f32) (n : BitVec 32) (hn : Scalar.cmpi .eq n 8#32 = 1#1) (r : Fin 256) (e : Fin 1024) :
    hid n ctx x xp xn shc shl scc scl ng (ix2 r e)
      = hidRow (fun e => ctx (ix3 0 r e)) (fun e => ng (ix2 0 e)) (fun e => scc (ix2 0 e)) (fun e => shc (ix2 0 e)) e := by
  have hs : ∀ {α : Type} (a b : α), Scalar.select 1#1 a b = a := fun _ _ => rfl
  unfold hid k0_pay10 k0_pay13 k0_pay11
  simp only [hn, hs]
  pointwise
  simp only [hn, hs]
  rfl

/-- The hidden rows of a tile of latents. -/
theorem hid_lat (ctx x : Vec Ideal S1x256x1024 .f32) (xp xn : Vec Ideal S1x8x1024 .f32) (shc : Vec Ideal S1x1024 .f32) (shl : Vec Ideal S1x1x1024 .f32)
    (scc : Vec Ideal S1x1024 .f32) (scl : Vec Ideal S1x1x1024 .f32) (ng : Vec Ideal S1x1024 .f32) (n : BitVec 32) (hn : Scalar.cmpi .eq n 8#32 = 0#1) (r : Fin 256) (e : Fin 1024) :
    hid n ctx x xp xn shc shl scc scl ng (ix2 r e)
      = hidRow (fun e => x (ix3 0 r e)) (fun e => ng (ix2 0 e)) (fun e => scl (ix3 0 0 e)) (fun e => shl (ix3 0 0 e)) e := by
  have hs : ∀ {α : Type} (a b : α), Scalar.select 0#1 a b = b := fun _ _ => rfl
  unfold hid k0_pay10 k0_pay13 k0_pay11
  simp only [hn, hs]
  pointwise
  simp only [hn, hs]
  rfl

/-- The gate at a row and a channel. -/
theorem gateT_at (h : FVec Ideal S256x1024 .bf16) (w : Vec Ideal S1024x1024 .bf16) (r : Fin 256) (e : Fin 1024) :
    gateT h w (ix3 0 r e) = silu (∑ k, h (ix2 r k) * w (ix2 k e)) := by
  pointwise [gateT, k0_pay3, k0_pay34]
  rfl

/-- The latent heads' values at a channel and a row. -/
theorem valT_at (h : FVec Ideal S256x1024 .bf16) (w : Vec Ideal S1024x256 .bf16) (g : Vec Ideal S1x256 .f32) (wv : Vec Ideal S384x256 .bf16) (d : Fin 384) (r : Fin 256) :
    valT h w g wv (ix3 0 d r) = ∑ k, wv (ix2 d k) * latRow (fun j => ∑ e, h (ix2 r e) * w (ix2 e j)) (fun j => g (ix2 0 j)) k := by
  pointwise [valT, k0_pay113, k0_pay112, k0_pay102, k0_pay101, k0_pay21]
  rfl

/-- The grouped heads' values at a channel and a row. -/
theorem grpT0_at (h : FVec Ideal S256x1024 .bf16) (w : Vec Ideal S128x1024 .bf16) (d : Fin 64) (r : Fin 256) :
    grpT0 h w (ix3 0 d r) = ∑ e, w (ix2 ⟨d.val, by omega⟩ e) * h (ix2 r e) := by
  pointwise [grpT0, k0_pay27, k0_pay26]

theorem grpT1_at (h : FVec Ideal S256x1024 .bf16) (w : Vec Ideal S128x1024 .bf16) (d : Fin 64) (r : Fin 256) :
    grpT1 h w (ix3 0 d r) = ∑ e, w (ix2 ⟨64 + d.val, by omega⟩ e) * h (ix2 r e) := by
  pointwise [grpT1, k0_pay31, k0_pay26]

/-! ## The results as functions of the arguments -/

/-- The hidden row `R` of batch `b`: the first 2048 are the latents', the last 256 the context's. -/
def hidAt (X : FVec Ideal S16x2048x1024 .f32) (C : FVec Ideal S16x256x1024 .f32) (Shl Scl : FVec Ideal S16x1x1024 .f32) (Shc Scc : FVec Ideal S1x1024 .f32)
    (Ng : FVec Ideal S1024 .f32) (b : Fin 16) (R : Fin 2304) (e : Fin 1024) : EReal :=
  if h : R.val < 2048 then hidRow (fun e => X (ix3 b ⟨R.val, h⟩ e)) (fun e => Ng (ix1 e)) (fun e => Scl (ix3 b 0 e)) (fun e => Shl (ix3 b 0 e)) e
  else hidRow (fun e => C (ix3 b ⟨R.val - 2048, by omega⟩ e)) (fun e => Ng (ix1 e)) (fun e => Scc (ix2 0 e)) (fun e => Shc (ix2 0 e)) e

/-- The gate at batch `b`, row `R`, channel `e`. -/
def gateAt (H : Fin 16 → Fin 2304 → Fin 1024 → EReal) (W : FVec Ideal S1024x3120 .f32) (b : Fin 16) (R : Fin 2304) (e : Fin 1024) : EReal :=
  silu (∑ k, H b R k * W (ix2 k ⟨2096 + e.val, by omega⟩))

/-- The gate's array, from the hidden rows and the projection. -/
def gateOf (H : Fin 16 → Fin 2304 → Fin 1024 → EReal) (W : FVec Ideal S1024x3120 .f32) : FVec Ideal S16x2304x1024 .bf16 :=
  fun y => gateAt H W (y 0) (y 1) (y 2)

/-- A channel of the values of row `H`: the first 384 are the latent heads', the last 384 the grouped heads', three to a key-value head. -/
def value (H : Fin 1024 → EReal) (W : FVec Ideal S1024x3120 .f32) (Kg : FVec Ideal S256 .f32) (U : FVec Ideal S256x768 .f32) (d : Fin 768) : EReal :=
  if h : d.val < 384 then ∑ k, U (ix2 k ⟨d.val / 64 * 128 + (64 + d.val % 64), by omega⟩)
      * latRow (fun j => ∑ e, H e * W (ix2 e ⟨384 + j.val, by omega⟩)) (fun j => Kg (ix1 j)) k
  else ∑ e, W (ix2 e ⟨1184 + ((d.val - 384) / 192 * 64 + d.val % 64), by omega⟩) * H e

/-- The values' array. -/
def valueOf (H : Fin 16 → Fin 2304 → Fin 1024 → EReal) (W : FVec Ideal S1024x3120 .f32) (Kg : FVec Ideal S256 .f32) (U : FVec Ideal S256x768 .f32) : FVec Ideal S16x768x2304 .bf16 :=
  fun y => value (H (y 0) (y 2)) W Kg U (y 1)

end Cert.Kernel3Ideal.Prj
-- ==== Proof.Prj.Reference.lean ====
/-
  The reference of the input projection over the extended reals, element by element.
-/
module

public import proofs.«01_k».proof.Proof.Gen.Reference3Ideal.Run
public import proofs.«01_k».proof.Proof.Prj.Rows

@[expose] public section

set_option maxRecDepth 16384

noncomputable section

namespace Cert.Reference3Ideal.Prj

open Cert.Reference3Ideal Cert.Reference3Ideal.Gen
open Idealize.ShloMosaic Idealize.ShloMosaic.TcCoe
open Cert.Kernel3Ideal.Prj (hidRow latRow silu hidAt gateAt gateOf value valueOf)

/-- The latents' hidden rows. -/
def latents (X : FVec Ideal S16x2048x1024 .f32) (Shl Scl : FVec Ideal S16x1x1024 .f32) (Ng : FVec Ideal S1024 .f32) : FVec Ideal S16x2048x1024 .f32 :=
  addf (mulf (mulf (mulf X (broadcastInDim S16x2048x1024 ![0, 1, 2] bcast_S16x2048x1_S16x2048x1024_0_1_2 (Host.rsqrt (addf (Host.divf
    (broadcastInDim S16x2048x1 ![0, 1] bcast_S16x2048_S16x2048x1_0_1 (Host.reduceAdd (mulf X X) (constant S_ .f32 0x00000000#32) reducesTo_S16x2048x1024_S16x2048_d2 h_S_))
    (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 Ng)))
    (broadcastInDim S16x2048x1024 ![0, 1, 2] bcast_S16x1x1024_S16x2048x1024_0_1_2 (addf (broadcastInDim S16x1x1024 ![] bcast_S_S16x1x1024 (constant S_ .f32 0x3F800000#32)) Scl)))
    (broadcastInDim S16x2048x1024 ![0, 1, 2] bcast_S16x1x1024_S16x2048x1024_0_1_2 Shl)

/-- The context's hidden rows. -/
def contexts (C : FVec Ideal S16x256x1024 .f32) (Shc Scc : FVec Ideal S1x1024 .f32) (Ng : FVec Ideal S1024 .f32) : FVec Ideal S16x256x1024 .f32 :=
  addf (mulf (mulf (mulf C (broadcastInDim S16x256x1024 ![0, 1, 2] bcast_S16x256x1_S16x256x1024_0_1_2 (Host.rsqrt (addf (Host.divf
    (broadcastInDim S16x256x1 ![0, 1] bcast_S16x256_S16x256x1_0_1 (Host.reduceAdd (mulf C C) (constant S_ .f32 0x00000000#32) reducesTo_S16x256x1024_S16x256_d2 h_S_))
    (broadcastInDim S16x256x1 ![] bcast_S_S16x256x1 (constant S_ .f32 0x44800000#32))) (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2 Ng)))
    (broadcastInDim S16x256x1024 ![0, 1, 2] bcast_S1x1x1024_S16x256x1024_0_1_2 (broadcastInDim S1x1x1024 ![1, 2] bcast_S1x1024_S1x1x1024_1_2
      (addf (broadcastInDim S1x1024 ![] bcast_S_S1x1024 (constant S_ .f32 0x3F800000#32)) Scc))))
    (broadcastInDim S16x256x1024 ![0, 1, 2] bcast_S1x1x1024_S16x256x1024_0_1_2 (broadcastInDim S1x1x1024 ![1, 2] bcast_S1x1024_S1x1x1024_1_2 Shc))

/-- One under the other. -/
def hiddens (L : FVec Ideal S16x2048x1024 .f32) (K : FVec Ideal S16x256x1024 .f32) : FVec Ideal S16x2304x1024 .f32 :=
  concatenate S16x2304x1024 1 [⟨S16x2048x1024, L⟩, ⟨S16x256x1024, K⟩] concatenates_S16x2048x1024_S16x256x1024_S16x2304x1024_d1

/-- The latent rows: a product. -/
def down (H : FVec Ideal S16x2304x1024 .f32) (W : FVec Ideal S1024x3120 .f32) : FVec Ideal S16x2304x256 .f32 :=
  Host.dotGeneral dot_S16x2304x1024_S1024x256_S16x2304x256_2_0_01_1_n_n none H (extractStridedSlice S1024x256 ![0, 384] W slices_S1024x3120_S1024x256_0_384)

/-- Their norm. -/
def normed (Z : FVec Ideal S16x2304x256 .f32) (Kg : FVec Ideal S256 .f32) : FVec Ideal S16x2304x256 .f32 :=
  mulf (mulf Z (broadcastInDim S16x2304x256 ![0, 1, 2] bcast_S16x2304x1_S16x2304x256_0_1_2 (Host.rsqrt (addf (Host.divf
    (broadcastInDim S16x2304x1 ![0, 1] bcast_S16x2304_S16x2304x1_0_1 (Host.reduceAdd (mulf Z Z) (constant S_ .f32 0x00000000#32) reducesTo_S16x2304x256_S16x2304_d2 h_S_))
    (broadcastInDim S16x2304x1 ![] bcast_S_S16x2304x1 (constant S_ .f32 0x43800000#32))) (broadcastInDim S16x2304x1 ![] bcast_S_S16x2304x1 (constant S_ .f32 0x358637BD#32))))))
    (broadcastInDim S16x2304x256 ![0, 1, 2] bcast_S1x1x256_S16x2304x256_0_1_2 (broadcastInDim S1x1x256 ![2] bcast_S256_S1x1x256_2 Kg))

/-- The latent heads' values. -/
def latentV (N : FVec Ideal S16x2304x256 .f32) (U : FVec Ideal S256x768 .f32) : FVec Ideal S16x2304x384 .f32 :=
  shapeCast _ (extractStridedSlice S16x2304x6x64 ![0, 0, 0, 64] (shapeCast S16x2304x6x128 (Host.dotGeneral dot_S16x2304x256_S256x768_S16x2304x768_2_0_01_1_n_n none N U : FVec Ideal S16x2304x768 .f32)
    shapeCasts_S16x2304x768_S16x2304x6x128) slices_S16x2304x6x128_S16x2304x6x64_0_0_0_64) shapeCasts_S16x2304x6x64_S16x2304x384

/-- The grouped heads' values. -/
def groupedV (H : FVec Ideal S16x2304x1024 .f32) (W : FVec Ideal S1024x3120 .f32) : FVec Ideal S16x2304x384 .f32 :=
  shapeCast _ (broadcastInDim S16x2304x2x3x64 ![0, 1, 2, 3, 4] bcast_S16x2304x2x1x64_S16x2304x2x3x64_0_1_2_3_4 (shapeCast S16x2304x2x1x64
    (Host.dotGeneral dot_S16x2304x1024_S1024x128_S16x2304x128_2_0_01_1_n_n none H (extractStridedSlice S1024x128 ![0, 1184] W slices_S1024x3120_S1024x128_0_1184) : FVec Ideal S16x2304x128 .f32)
    shapeCasts_S16x2304x128_S16x2304x2x1x64)) shapeCasts_S16x2304x2x3x64_S16x2304x384

/-- Both side by side, transposed. -/
def values (A B : FVec Ideal S16x2304x384 .f32) : FVec Ideal S16x768x2304 .bf16 :=
  truncf .bf16 (transpose S16x768x2304 [0, 2, 1] (concatenate S16x2304x768 2 [⟨S16x2304x384, A⟩, ⟨S16x2304x384, B⟩] concatenates_S16x2304x384_S16x2304x384_S16x2304x768_d2)
    transposes_S16x2304x768_S16x768x2304_0_2_1) bitsLt_bf16_f32

/-- The gate's product, -/
def gates (H : FVec Ideal S16x2304x1024 .f32) (W : FVec Ideal S1024x3120 .f32) : FVec Ideal S16x2304x1024 .f32 :=
  Host.dotGeneral dot_S16x2304x1024_S1024x1024_S16x2304x1024_2_0_01_1_n_n none H (extractStridedSlice S1024x1024 ![0, 2096] W slices_S1024x3120_S1024x1024_0_2096)

/-- and its silu. -/
def silus (G : FVec Ideal S16x2304x1024 .f32) : FVec Ideal S16x2304x1024 .bf16 :=
  truncf .bf16 (mulf G (Host.divf (broadcastInDim S16x2304x1024 ![] bcast_S_S16x2304x1024 (constant S_ .f32 0x3F800000#32))
    (addf (broadcastInDim S16x2304x1024 ![] bcast_S_S16x2304x1024 (constant S_ .f32 0x3F800000#32)) (Host.exp (Host.negf G))))) bitsLt_bf16_f32

/-! ## At an index -/

theorem latents_at (X : FVec Ideal S16x2048x1024 .f32) (Shl Scl : FVec Ideal S16x1x1024 .f32) (Ng : FVec Ideal S1024 .f32) (b : Fin 16) (R : Fin 2048) (e : Fin 1024) :
    latents X Shl Scl Ng (ix3 b R e) = hidRow (fun e => X (ix3 b R e)) (fun e => Ng (ix1 e)) (fun e => Scl (ix3 b 0 e)) (fun e => Shl (ix3 b 0 e)) e := by
  pointwise [latents]
  rfl

theorem contexts_at (C : FVec Ideal S16x256x1024 .f32) (Shc Scc : FVec Ideal S1x1024 .f32) (Ng : FVec Ideal S1024 .f32) (b : Fin 16) (R : Fin 256) (e : Fin 1024) :
    contexts C Shc Scc Ng (ix3 b R e) = hidRow (fun e => C (ix3 b R e)) (fun e => Ng (ix1 e)) (fun e => Scc (ix2 0 e)) (fun e => Shc (ix2 0 e)) e := by
  pointwise [contexts]
  rfl

/-- A hidden row is a row of the latents or one of the context. -/
theorem hiddens_at (X : FVec Ideal S16x2048x1024 .f32) (C : FVec Ideal S16x256x1024 .f32) (Shl Scl : FVec Ideal S16x1x1024 .f32) (Shc Scc : FVec Ideal S1x1024 .f32)
    (Ng : FVec Ideal S1024 .f32) (b : Fin 16) (R : Fin 2304) (e : Fin 1024) :
    hiddens (latents X Shl Scl Ng) (contexts C Shc Scc Ng) (ix3 b R e) = hidAt X C Shl Scl Shc Scc Ng b R e := by
  unfold hidAt
  split
  · rename_i h
    rw [← latents_at]
    pointwise [hiddens]
    rw [dif_pos h]
  · rename_i h
    rw [← contexts_at]
    pointwise [hiddens]
    rw [dif_neg h]

theorem down_at (H : FVec Ideal S16x2304x1024 .f32) (W : FVec Ideal S1024x3120 .f32) (b : Fin 16) (R : Fin 2304) (j : Fin 256) :
    down H W (ix3 b R j) = ∑ e, H (ix3 b R e) * W (ix2 e ⟨384 + j.val, by omega⟩) := by
  pointwise [down]

theorem normed_at (Z : FVec Ideal S16x2304x256 .f32) (Kg : FVec Ideal S256 .f32) (b : Fin 16) (R : Fin 2304) (j : Fin 256) :
    normed Z Kg (ix3 b R j) = latRow (fun j => Z (ix3 b R j)) (fun j => Kg (ix1 j)) j := by
  pointwise [normed]
  rfl

theorem latentV_at (N : FVec Ideal S16x2304x256 .f32) (U : FVec Ideal S256x768 .f32) (b : Fin 16) (R : Fin 2304) (d : Fin 384) :
    latentV N U (ix3 b R d) = ∑ k, N (ix3 b R k) * U (ix2 k ⟨d.val / 64 * 128 + (64 + d.val % 64), by omega⟩) := by
  pointwise [latentV]

theorem groupedV_at (H : FVec Ideal S16x2304x1024 .f32) (W : FVec Ideal S1024x3120 .f32) (b : Fin 16) (R : Fin 2304) (d : Fin 384) :
    groupedV H W (ix3 b R d) = ∑ e, H (ix3 b R e) * W (ix2 e ⟨1184 + (d.val / 192 * 64 + d.val % 64), by omega⟩) := by
  pointwise [groupedV]

theorem values_lo (A B : FVec Ideal S16x2304x384 .f32) (b : Fin 16) (R : Fin 2304) (d : Fin 768) (h : d.val < 384) :
    values A B (ix3 b d R) = A (ix3 b R ⟨d.val, h⟩) := by
  pointwise [values]
  rw [dif_pos h]

theorem values_hi (A B : FVec Ideal S16x2304x384 .f32) (b : Fin 16) (R : Fin 2304) (d : Fin 768) (h : ¬ d.val < 384) :
    values A B (ix3 b d R) = B (ix3 b R ⟨d.val - 384, by omega⟩) := by
  pointwise [values]
  rw [dif_neg h]

theorem gates_at (H : FVec Ideal S16x2304x1024 .f32) (W : FVec Ideal S1024x3120 .f32) (b : Fin 16) (R : Fin 2304) (e : Fin 1024) :
    gates H W (ix3 b R e) = ∑ k, H (ix3 b R k) * W (ix2 k ⟨2096 + e.val, by omega⟩) := by
  pointwise [gates]

theorem silus_at (G : FVec Ideal S16x2304x1024 .f32) (b : Fin 16) (R : Fin 2304) (e : Fin 1024) :
    silus G (ix3 b R e) = silu (G (ix3 b R e)) := by
  pointwise [silus]
  rfl

/-! ## The results -/

/-- The reference's values as a function of its arguments, -/
def refV (X : FVec Ideal S16x2048x1024 .f32) (C : FVec Ideal S16x256x1024 .f32) (Shl Scl : FVec Ideal S16x1x1024 .f32) (Shc Scc : FVec Ideal S1x1024 .f32)
    (W : FVec Ideal S1024x3120 .f32) (Ng : FVec Ideal S1024 .f32) (Kg : FVec Ideal S256 .f32) (U : FVec Ideal S256x768 .f32) : FVec Ideal S16x768x2304 .bf16 :=
  values (latentV (normed (down (hiddens (latents X Shl Scl Ng) (contexts C Shc Scc Ng)) W) Kg) U) (groupedV (hiddens (latents X Shl Scl Ng) (contexts C Shc Scc Ng)) W)

/-- and its gate. -/
def refG (X : FVec Ideal S16x2048x1024 .f32) (C : FVec Ideal S16x256x1024 .f32) (Shl Scl : FVec Ideal S16x1x1024 .f32) (Shc Scc : FVec Ideal S1x1024 .f32)
    (W : FVec Ideal S1024x3120 .f32) (Ng : FVec Ideal S1024 .f32) : FVec Ideal S16x2304x1024 .bf16 :=
  silus (gates (hiddens (latents X Shl Scl Ng) (contexts C Shc Scc Ng)) W)

/-- The values are the stated ones, -/
theorem refV_eq (X : FVec Ideal S16x2048x1024 .f32) (C : FVec Ideal S16x256x1024 .f32) (Shl Scl : FVec Ideal S16x1x1024 .f32) (Shc Scc : FVec Ideal S1x1024 .f32)
    (W : FVec Ideal S1024x3120 .f32) (Ng : FVec Ideal S1024 .f32) (Kg : FVec Ideal S256 .f32) (U : FVec Ideal S256x768 .f32) :
    refV X C Shl Scl Shc Scc W Ng Kg U = valueOf (hidAt X C Shl Scl Shc Scc Ng) W Kg U := by
  funext y
  obtain ⟨b, d, R, rfl⟩ : ∃ b d R, y = (ix3 b d R : S16x768x2304.Idx) := ⟨_, _, _, eq_ix3 y⟩
  show refV X C Shl Scl Shc Scc W Ng Kg U (ix3 b d R) = value (hidAt X C Shl Scl Shc Scc Ng b R) W Kg U d
  unfold refV value
  split
  · rename_i h
    rw [values_lo _ _ _ _ _ h, latentV_at]
    simp only [normed_at, down_at, hiddens_at]
    exact Finset.sum_congr rfl fun k _ => mul_comm _ _
  · rename_i h
    rw [values_hi _ _ _ _ _ h, groupedV_at]
    refine Finset.sum_congr rfl fun e _ => ?_
    rw [hiddens_at, mul_comm]
    refine congrArg (fun j => W j * _) (congrArg (ix2 e) (Fin.ext ?_))
    show 1184 + ((d.val - 384) / 192 * 64 + (d.val - 384) % 64) = 1184 + ((d.val - 384) / 192 * 64 + d.val % 64)
    omega

/-- and so is the gate. -/
theorem refG_eq (X : FVec Ideal S16x2048x1024 .f32) (C : FVec Ideal S16x256x1024 .f32) (Shl Scl : FVec Ideal S16x1x1024 .f32) (Shc Scc : FVec Ideal S1x1024 .f32)
    (W : FVec Ideal S1024x3120 .f32) (Ng : FVec Ideal S1024 .f32) :
    refG X C Shl Scl Shc Scc W Ng = gateOf (hidAt X C Shl Scl Shc Scc Ng) W := by
  funext y
  obtain ⟨b, R, e, rfl⟩ : ∃ b R e, y = (ix3 b R e : S16x2304x1024.Idx) := ⟨_, _, _, eq_ix3 y⟩
  show refG X C Shl Scl Shc Scc W Ng (ix3 b R e) = gateAt (hidAt X C Shl Scl Shc Scc Ng) W b R e
  unfold refG gateAt
  rw [silus_at, gates_at]
  simp only [hiddens_at]

/-- The reference leaves these in its result arrays. -/
theorem res_eq (m : (ℓ : Loc nD τ sig) → Buf (Elt Ideal) ℓ) (c : Dev nD) :
    (Cert.Reference3Ideal.Value.res_main_v67 m c : FVec Ideal S16x768x2304 .bf16)
      = refV (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg10)) (m ((c.tc : Thread nD τ).loc main_arg11))
    ∧ (Cert.Reference3Ideal.Value.res_main_v77 m c : FVec Ideal S16x2304x1024 .bf16)
      = refG (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  constructor
  · unfold refV values latentV normed down groupedV hiddens latents contexts
    rfl
  · unfold refG silus gates hiddens latents contexts
    rfl

end Cert.Reference3Ideal.Prj
-- ==== Proof.Prj.Tile.lean ====
/-
  The pieces that the body of the input projection stores, from the blocks of one grid point, and their readings.
-/
module

public import proofs.«01_k».proof.Proof.Prj.Rows
public import proofs.«01_k».proof.Proof.Mrg.Block

@[expose] public section

set_option maxRecDepth 16384

noncomputable section

namespace Cert.Kernel3Ideal.Prj

open Cert.Kernel3Ideal Cert.Kernel3Ideal.Gen
open Idealize.ShloMosaic Idealize.ShloMosaic.TcCoe
open Cert.Kernel2Ideal.Mrg (ix2_ext ix3_ext ix4_ext)

/-- What the body reads at one grid point: the tiles of tokens with the rows around them, the context, and the gains and weights. -/
structure Blocks (F : FTy → Type) [FloatOps F] where
  i : grid0.Coords
  x : ℕ → Vec F S1x256x1024 .f32
  xp : ℕ → Vec F S1x8x1024 .f32
  xn : ℕ → Vec F S1x8x1024 .f32
  ctx : Vec F S1x256x1024 .f32
  shl : Vec F S1x1x1024 .f32
  scl : Vec F S1x1x1024 .f32
  shc : Vec F S1x1024 .f32
  scc : Vec F S1x1024 .f32
  ng : Vec F S1x1024 .f32
  w : Vec F S1024x3328 .bf16
  kg : Vec F S1x256 .f32
  uv : Vec F S384x256 .bf16
  gv : Vec F S128x1024 .bf16

/-- One of three, by number. -/
def pick {α : Type} (a b c : α) : ℕ → α
  | 0 => a
  | 1 => b
  | _ => c

variable {F : FTy → Type} [FloatOps F]

/-- The hidden rows of tile `s` of the point's three. -/
def hidB (B : Blocks F) (s : ℕ) : FVec F S256x1024 .bf16 :=
  hid (Scalar.addi (Scalar.muli 3#32 (BitVec.ofNat 32 (B.i 1).val)) (BitVec.ofNat 32 s))
    (View.ld B.ctx (Rect.unit ![0, 0, 0] ![1, 256, 1024] inb_S1x256x1024_S1x256x1024_0_0_0)) (View.ld (B.x s) (Rect.unit ![0, 0, 0] ![1, 256, 1024] inb_S1x256x1024_S1x256x1024_0_0_0))
    (View.ld (B.xp s) (Rect.unit ![0, 0, 0] ![1, 8, 1024] inb_S1x8x1024_S1x8x1024_0_0_0)) (View.ld (B.xn s) (Rect.unit ![0, 0, 0] ![1, 8, 1024] inb_S1x8x1024_S1x8x1024_0_0_0))
    (View.ld B.shc (Rect.unit ![0, 0] ![1, 1024] inb_S1x1024_S1x1024_0_0)) (View.ld B.shl (Rect.unit ![0, 0, 0] ![1, 1, 1024] inb_S1x1x1024_S1x1x1024_0_0_0))
    (View.ld B.scc (Rect.unit ![0, 0] ![1, 1024] inb_S1x1024_S1x1024_0_0)) (View.ld B.scl (Rect.unit ![0, 0, 0] ![1, 1, 1024] inb_S1x1x1024_S1x1x1024_0_0_0))
    (View.ld B.ng (Rect.unit ![0, 0] ![1, 1024] inb_S1x1024_S1x1024_0_0))

theorem gate_in {o : ℕ} (h : o + 256 ≤ 768) : ∀ a : Fin 3, (![0, o, 0] : Fin 3 → ℕ) a + (![1, 256, 1024] : Fin 3 → ℕ) a ≤ S1x768x1024.size a := by
  intro a
  match a with
  | ⟨0, _⟩ => show 0 + 1 ≤ 1; omega
  | ⟨1, _⟩ => exact h
  | ⟨2, _⟩ => show 0 + 1024 ≤ 1024; omega

theorem val_in {p n o : ℕ} (h : p + n ≤ 768) (h' : o + 256 ≤ 768) : ∀ a : Fin 3, (![0, p, o] : Fin 3 → ℕ) a + (![1, n, 256] : Fin 3 → ℕ) a ≤ S1x768x768.size a := by
  intro a
  match a with
  | ⟨0, _⟩ => show 0 + 1 ≤ 1; omega
  | ⟨1, _⟩ => exact h
  | ⟨2, _⟩ => exact h'

/-- The gate of tile `s`, its rows from `o` on. -/
def gateP (B : Blocks F) (s o : ℕ) (h : o + 256 ≤ 768) : View.Piece (Elt F) S1x768x1024 .bf16 :=
  ⟨Rect.unit ![0, o, 0] ![1, 256, 1024] (gate_in h), gateT (hidB B s) (View.ld B.w (Rect.unit ![0, 2304] ![1024, 1024] inb_S1024x3328_S1024x1024_0_2304))⟩

/-- The latent heads' values of tile `s`, its columns from `o` on. -/
def latP (B : Blocks F) (s o : ℕ) (h : o + 256 ≤ 768) : View.Piece (Elt F) S1x768x768 .bf16 :=
  ⟨Rect.unit ![0, 0, o] ![1, 384, 256] (val_in (by decide) h), valT (hidB B s) (View.ld B.w (Rect.unit ![0, 384] ![1024, 256] inb_S1024x3328_S1024x256_0_384))
    (View.ld B.kg (Rect.unit ![0, 0] ![1, 256] inb_S1x256_S1x256_0_0)) (View.ld B.uv (Rect.unit ![0, 0] ![384, 256] inb_S384x256_S384x256_0_0))⟩

/-- The values of a grouped head over the first key-value head, its rows from `p` on, -/
def grp0P (B : Blocks F) (s p o : ℕ) (h : p + 64 ≤ 768) (h' : o + 256 ≤ 768) : View.Piece (Elt F) S1x768x768 .bf16 :=
  ⟨Rect.unit ![0, p, o] ![1, 64, 256] (val_in h h'), grpT0 (hidB B s) (View.ld B.gv (Rect.unit ![0, 0] ![128, 1024] inb_S128x1024_S128x1024_0_0))⟩

/-- and over the second. -/
def grp1P (B : Blocks F) (s p o : ℕ) (h : p + 64 ≤ 768) (h' : o + 256 ≤ 768) : View.Piece (Elt F) S1x768x768 .bf16 :=
  ⟨Rect.unit ![0, p, o] ![1, 64, 256] (val_in h h'), grpT1 (hidB B s) (View.ld B.gv (Rect.unit ![0, 0] ![128, 1024] inb_S128x1024_S128x1024_0_0))⟩

/-! ## Readings -/

/-- A load of all of a buffer reads all of it. -/
theorem ld_all2 {m n : ℕ} {α : Type} (x : (⟨2, ![m, n]⟩ : Shape).Idx → α) (h : ∀ a : Fin 2, (![0, 0] : Fin 2 → ℕ) a + (![m, n] : Fin 2 → ℕ) a ≤ (⟨2, ![m, n]⟩ : Shape).size a) (j : Fin m) (k : Fin n) :
    x ((Rect.unit (s := ⟨2, ![m, n]⟩) ![0, 0] ![m, n] h).idx (show (Rect.unit (s := ⟨2, ![m, n]⟩) ![0, 0] ![m, n] h).shape.Idx from (ix2 j k : (⟨2, ![m, n]⟩ : Shape).Idx))) = x (ix2 j k) :=
  congrArg x (ix2_ext (by show 0 + 1 * j.val = j.val; omega) (by show 0 + 1 * k.val = k.val; omega))

theorem ld_all3 {l m n : ℕ} {α : Type} (x : (⟨3, ![l, m, n]⟩ : Shape).Idx → α) (h : ∀ a : Fin 3, (![0, 0, 0] : Fin 3 → ℕ) a + (![l, m, n] : Fin 3 → ℕ) a ≤ (⟨3, ![l, m, n]⟩ : Shape).size a) (i : Fin l) (j : Fin m) (k : Fin n) :
    x ((Rect.unit (s := ⟨3, ![l, m, n]⟩) ![0, 0, 0] ![l, m, n] h).idx (show (Rect.unit (s := ⟨3, ![l, m, n]⟩) ![0, 0, 0] ![l, m, n] h).shape.Idx from (ix3 i j k : (⟨3, ![l, m, n]⟩ : Shape).Idx))) = x (ix3 i j k) :=
  congrArg x (ix3_ext (by show 0 + 1 * i.val = i.val; omega) (by show 0 + 1 * j.val = j.val; omega) (by show 0 + 1 * k.val = k.val; omega))

/-- A load of some columns. -/
theorem ld_cols {m n o w : ℕ} {α : Type} (x : (⟨2, ![m, n]⟩ : Shape).Idx → α) (h : ∀ a : Fin 2, (![0, o] : Fin 2 → ℕ) a + (![m, w] : Fin 2 → ℕ) a ≤ (⟨2, ![m, n]⟩ : Shape).size a) (hw : o + w ≤ n) (j : Fin m) (k : Fin w) :
    x ((Rect.unit (s := ⟨2, ![m, n]⟩) ![0, o] ![m, w] h).idx (show (Rect.unit (s := ⟨2, ![m, n]⟩) ![0, o] ![m, w] h).shape.Idx from (ix2 j k : (⟨2, ![m, w]⟩ : Shape).Idx))) = x (ix2 j ⟨o + k.val, by omega⟩) :=
  congrArg x (ix2_ext (by show 0 + 1 * j.val = j.val; omega) (by show o + 1 * k.val = o + k.val; omega))

/-- A hidden row from equal ones. -/
theorem hidRow_of {x x' g g' sc sc' sh sh' : Fin 1024 → EReal} (h1 : ∀ e, x e = x' e) (h2 : ∀ e, g e = g' e) (h3 : ∀ e, sc e = sc' e) (h4 : ∀ e, sh e = sh' e) (e : Fin 1024) :
    hidRow x g sc sh e = hidRow x' g' sc' sh' e := by
  rw [funext h1, funext h2, funext h3, funext h4]

/-- Row `r` of the point's 768 hidden rows. -/
def hidR (B : Blocks Ideal) (r : Fin 768) (e : Fin 1024) : EReal :=
  if 3 * (B.i 1).val + r.val / 256 = 8 then
    hidRow (fun e => B.ctx (ix3 0 ⟨r.val % 256, by omega⟩ e)) (fun e => B.ng (ix2 0 e)) (fun e => B.scc (ix2 0 e)) (fun e => B.shc (ix2 0 e)) e
  else hidRow (fun e => B.x (r.val / 256) (ix3 0 ⟨r.val % 256, by omega⟩ e)) (fun e => B.ng (ix2 0 e)) (fun e => B.scl (ix3 0 0 e)) (fun e => B.shl (ix3 0 0 e)) e

/-- Which tile is the context's. -/
theorem tile_word : ∀ a s : Fin 3, Scalar.cmpi .eq (Scalar.addi (Scalar.muli 3#32 (BitVec.ofNat 32 a.val)) (BitVec.ofNat 32 s.val)) 8#32
    = if 3 * a.val + s.val = 8 then 1#1 else 0#1 := by decide

theorem hidB_at (B : Blocks Ideal) (s : ℕ) (hs : s < 3) (r : Fin 256) (e : Fin 1024) : hidB B s (ix2 r e) = hidR B ⟨256 * s + r.val, by omega⟩ e := by
  have hd : (256 * s + r.val) / 256 = s := by omega
  have hm : (256 * s + r.val) % 256 = r.val := by omega
  have hw := tile_word ⟨(B.i 1).val, (B.i 1).isLt⟩ ⟨s, hs⟩
  unfold hidR
  dsimp only at hw ⊢
  simp only [hd, hm]
  by_cases h : 3 * (B.i 1).val + s = 8
  · rw [if_pos h] at hw ⊢
    unfold hidB
    rw [hid_ctx _ _ _ _ _ _ _ _ _ _ hw]
    exact hidRow_of (fun e => ld_all3 B.ctx _ 0 r e) (fun e => ld_all2 B.ng _ 0 e) (fun e => ld_all2 B.scc _ 0 e) (fun e => ld_all2 B.shc _ 0 e) e
  · rw [if_neg h] at hw ⊢
    unfold hidB
    rw [hid_lat _ _ _ _ _ _ _ _ _ _ hw]
    exact hidRow_of (fun e => ld_all3 (B.x s) _ 0 r e) (fun e => ld_all2 B.ng _ 0 e) (fun e => ld_all3 B.scl _ 0 0 e) (fun e => ld_all3 B.shl _ 0 0 e) e

/-- The gate's block at a row and a channel. -/
def gateR (B : Blocks Ideal) (r : Fin 768) (e : Fin 1024) : EReal := silu (∑ k, hidR B r k * B.w (ix2 k ⟨2304 + e.val, by omega⟩))

/-- The values' block at a channel and a row. -/
def valR (B : Blocks Ideal) (d r : Fin 768) : EReal :=
  if h : d.val < 384 then ∑ k, B.uv (ix2 ⟨d.val, h⟩ k) * latRow (fun j => ∑ e, hidR B r e * B.w (ix2 e ⟨384 + j.val, by omega⟩)) (fun j => B.kg (ix2 0 j)) k
  else ∑ e, B.gv (ix2 ⟨(d.val - 384) / 192 * 64 + d.val % 64, by omega⟩ e) * hidR B r e

/-- The pieces hold these. -/
theorem gateP_at (B : Blocks Ideal) (s : ℕ) (hs : s < 3) (o : ℕ) (h : o + 256 ≤ 768) (ho : o = 256 * s) (x : (gateP B s o h).1.shape.Idx) :
    (gateP B s o h).2 x = (fun y : S1x768x1024.Idx => gateR B (y 1) (y 2)) ((gateP B s o h).1.emb x) := by
  obtain ⟨x0, r, e, rfl⟩ : ∃ x0 r e, x = (ix3 x0 r e : S1x256x1024.Idx) := ⟨_, _, _, eq_ix3 x⟩
  obtain rfl : x0 = 0 := Subsingleton.elim _ _
  subst ho
  have e1 : ((gateP B s (256 * s) h).1.emb (ix3 0 r e : S1x256x1024.Idx)) = (ix3 0 ⟨256 * s + r.val, by omega⟩ e : S1x768x1024.Idx) :=
    ix3_ext rfl (by show 256 * s + 1 * r.val = 256 * s + r.val; omega) (by show 0 + 1 * e.val = e.val; omega)
  rw [e1]
  show gateT (hidB B s) _ (ix3 0 r e) = gateR B ⟨256 * s + r.val, by omega⟩ e
  rw [gateT_at]
  unfold gateR
  simp only [hidB_at B s hs]
  exact congrArg silu (Finset.sum_congr rfl fun k _ => congrArg (fun z => hidR B ⟨256 * s + r.val, by omega⟩ k * z) (ld_cols (o := 2304) (w := 1024) B.w inb_S1024x3328_S1024x1024_0_2304 (by decide) k e))

theorem latP_at (B : Blocks Ideal) (s : ℕ) (hs : s < 3) (o : ℕ) (h : o + 256 ≤ 768) (ho : o = 256 * s) (x : (latP B s o h).1.shape.Idx) :
    (latP B s o h).2 x = (fun y : S1x768x768.Idx => valR B (y 1) (y 2)) ((latP B s o h).1.emb x) := by
  obtain ⟨x0, d, r, rfl⟩ : ∃ x0 d r, x = (ix3 x0 d r : S1x384x256.Idx) := ⟨_, _, _, eq_ix3 x⟩
  obtain rfl : x0 = 0 := Subsingleton.elim _ _
  subst ho
  have e1 : ((latP B s (256 * s) h).1.emb (ix3 0 d r : S1x384x256.Idx)) = (ix3 0 ⟨d.val, by omega⟩ ⟨256 * s + r.val, by omega⟩ : S1x768x768.Idx) :=
    ix3_ext rfl (by show 0 + 1 * d.val = d.val; omega) (by show 256 * s + 1 * r.val = 256 * s + r.val; omega)
  rw [e1]
  show valT (hidB B s) _ _ _ (ix3 0 d r) = valR B ⟨d.val, by omega⟩ ⟨256 * s + r.val, by omega⟩
  rw [valT_at]
  unfold valR
  rw [dif_pos d.isLt]
  simp only [hidB_at B s hs]
  refine Finset.sum_congr rfl fun k _ => congrArg₂ (· * ·) (ld_all2 B.uv _ d k) (congrArg₂ (fun z g => latRow z g k) (funext fun j => ?_) (funext fun j => ld_all2 B.kg _ 0 j))
  exact Finset.sum_congr rfl fun e _ => congrArg (fun z => hidR B ⟨256 * s + r.val, by omega⟩ e * z) (ld_cols (o := 384) (w := 256) B.w inb_S1024x3328_S1024x256_0_384 (by decide) e j)

theorem grp0P_at (B : Blocks Ideal) (s : ℕ) (hs : s < 3) (p o : ℕ) (h : p + 64 ≤ 768) (h' : o + 256 ≤ 768) (ho : o = 256 * s) (j : ℕ) (hj : j < 3) (hp : p = 384 + 64 * j) (x : (grp0P B s p o h h').1.shape.Idx) :
    (grp0P B s p o h h').2 x = (fun y : S1x768x768.Idx => valR B (y 1) (y 2)) ((grp0P B s p o h h').1.emb x) := by
  obtain ⟨x0, d, r, rfl⟩ : ∃ x0 d r, x = (ix3 x0 d r : S1x64x256.Idx) := ⟨_, _, _, eq_ix3 x⟩
  obtain rfl : x0 = 0 := Subsingleton.elim _ _
  subst ho
  have e1 : ((grp0P B s p (256 * s) h h').1.emb (ix3 0 d r : S1x64x256.Idx)) = (ix3 0 ⟨p + d.val, by omega⟩ ⟨256 * s + r.val, by omega⟩ : S1x768x768.Idx) :=
    ix3_ext rfl (by show p + 1 * d.val = p + d.val; omega) (by show 256 * s + 1 * r.val = 256 * s + r.val; omega)
  rw [e1]
  show grpT0 (hidB B s) _ (ix3 0 d r) = valR B ⟨p + d.val, by omega⟩ ⟨256 * s + r.val, by omega⟩
  rw [grpT0_at]
  unfold valR
  rw [dif_neg (by show ¬ p + d.val < 384; omega)]
  simp only [hidB_at B s hs]
  refine Finset.sum_congr rfl fun e _ => congrArg (· * hidR B ⟨256 * s + r.val, by omega⟩ e) ((ld_all2 B.gv _ ⟨d.val, by omega⟩ e).trans (congrArg (fun k => B.gv (ix2 k e)) (Fin.ext ?_)))
  show d.val = (p + d.val - 384) / 192 * 64 + (p + d.val) % 64
  omega

theorem grp1P_at (B : Blocks Ideal) (s : ℕ) (hs : s < 3) (p o : ℕ) (h : p + 64 ≤ 768) (h' : o + 256 ≤ 768) (ho : o = 256 * s) (j : ℕ) (hj : j < 3) (hp : p = 576 + 64 * j) (x : (grp1P B s p o h h').1.shape.Idx) :
    (grp1P B s p o h h').2 x = (fun y : S1x768x768.Idx => valR B (y 1) (y 2)) ((grp1P B s p o h h').1.emb x) := by
  obtain ⟨x0, d, r, rfl⟩ : ∃ x0 d r, x = (ix3 x0 d r : S1x64x256.Idx) := ⟨_, _, _, eq_ix3 x⟩
  obtain rfl : x0 = 0 := Subsingleton.elim _ _
  subst ho
  have e1 : ((grp1P B s p (256 * s) h h').1.emb (ix3 0 d r : S1x64x256.Idx)) = (ix3 0 ⟨p + d.val, by omega⟩ ⟨256 * s + r.val, by omega⟩ : S1x768x768.Idx) :=
    ix3_ext rfl (by show p + 1 * d.val = p + d.val; omega) (by show 256 * s + 1 * r.val = 256 * s + r.val; omega)
  rw [e1]
  show grpT1 (hidB B s) _ (ix3 0 d r) = valR B ⟨p + d.val, by omega⟩ ⟨256 * s + r.val, by omega⟩
  rw [grpT1_at]
  unfold valR
  rw [dif_neg (by show ¬ p + d.val < 384; omega)]
  simp only [hidB_at B s hs]
  refine Finset.sum_congr rfl fun e _ => congrArg (· * hidR B ⟨256 * s + r.val, by omega⟩ e) ((ld_all2 B.gv _ ⟨64 + d.val, by omega⟩ e).trans (congrArg (fun k => B.gv (ix2 k e)) (Fin.ext ?_)))
  show 64 + d.val = (p + d.val - 384) / 192 * 64 + (p + d.val) % 64
  omega

end Cert.Kernel3Ideal.Prj
-- ==== Proof.Prj.Point.lean ====
/-
  One grid point of the input projection: its blocks' hidden rows, gate and values are those of the whole arrays.
-/
module

public import proofs.«01_k».proof.Proof.Prj.Tile

@[expose] public section

set_option maxRecDepth 16384

noncomputable section

namespace Cert.Kernel3Ideal.Prj

open Cert.Kernel3Ideal Cert.Kernel3Ideal.Gen
open Idealize.ShloMosaic Idealize.ShloMosaic.TcCoe

/-- That blocks are those of tile triple `q` of batch `b`. -/
structure Reads (B : Blocks Ideal) (X : FVec Ideal S16x2048x1024 .f32) (C : FVec Ideal S16x256x1024 .f32) (Shl Scl : FVec Ideal S16x1x1024 .f32) (Shc Scc : FVec Ideal S1x1024 .f32)
    (W : FVec Ideal S1024x3120 .f32) (Ng : FVec Ideal S1024 .f32) (Kg : FVec Ideal S256 .f32) (U : FVec Ideal S256x768 .f32) (b : Fin 16) (q : Fin 3) : Prop where
  i : (B.i 1).val = q.val
  x : ∀ (s : ℕ) (h : 3 * q.val + s < 8) (_ : s < 3) (r : Fin 256) (e : Fin 1024), B.x s (ix3 0 r e) = X (ix3 b ⟨256 * (3 * q.val + s) + r.val, by omega⟩ e)
  ctx : ∀ (r : Fin 256) (e : Fin 1024), B.ctx (ix3 0 r e) = C (ix3 b r e)
  shl : ∀ e : Fin 1024, B.shl (ix3 0 0 e) = Shl (ix3 b 0 e)
  scl : ∀ e : Fin 1024, B.scl (ix3 0 0 e) = Scl (ix3 b 0 e)
  shc : ∀ e : Fin 1024, B.shc (ix2 0 e) = Shc (ix2 0 e)
  scc : ∀ e : Fin 1024, B.scc (ix2 0 e) = Scc (ix2 0 e)
  ng : ∀ e : Fin 1024, B.ng (ix2 0 e) = Ng (ix1 e)
  kg : ∀ e : Fin 256, B.kg (ix2 0 e) = Kg (ix1 e)
  gate : ∀ k j : Fin 1024, B.w (ix2 k ⟨2304 + j.val, by omega⟩) = W (ix2 k ⟨2096 + j.val, by omega⟩)
  latent : ∀ (k : Fin 1024) (j : Fin 256), B.w (ix2 k ⟨384 + j.val, by omega⟩) = W (ix2 k ⟨384 + j.val, by omega⟩)
  uv : ∀ (d : Fin 384) (k : Fin 256), B.uv (ix2 d k) = U (ix2 k ⟨d.val / 64 * 128 + (64 + d.val % 64), by omega⟩)
  gv : ∀ (d : Fin 128) (k : Fin 1024), B.gv (ix2 d k) = W (ix2 k ⟨1184 + d.val, by omega⟩)

/-- Row `r` of triple `q` is row `768 q + r` of 2304. -/
def row (q : Fin 3) (r : Fin 768) : Fin 2304 := ⟨768 * q.val + r.val, by omega⟩

variable {B : Blocks Ideal} {X : FVec Ideal S16x2048x1024 .f32} {C : FVec Ideal S16x256x1024 .f32} {Shl Scl : FVec Ideal S16x1x1024 .f32} {Shc Scc : FVec Ideal S1x1024 .f32}
  {W : FVec Ideal S1024x3120 .f32} {Ng : FVec Ideal S1024 .f32} {Kg : FVec Ideal S256 .f32} {U : FVec Ideal S256x768 .f32} {b : Fin 16} {q : Fin 3}

/-- The hidden rows, -/
theorem Reads.hid (h : Reads B X C Shl Scl Shc Scc W Ng Kg U b q) (r : Fin 768) (e : Fin 1024) : hidR B r e = hidAt X C Shl Scl Shc Scc Ng b (row q r) e := by
  unfold hidR hidAt
  rw [h.i]
  by_cases hc : 3 * q.val + r.val / 256 = 8
  · rw [if_pos hc, dif_neg (by show ¬ 768 * q.val + r.val < 2048; omega)]
    refine hidRow_of (fun e => (h.ctx _ e).trans ?_) h.ng h.scc h.shc e
    exact congrArg (fun z => C (ix3 b z e)) (Fin.ext (by show r.val % 256 = 768 * q.val + r.val - 2048; omega))
  · rw [if_neg hc, dif_pos (by show 768 * q.val + r.val < 2048; omega)]
    refine hidRow_of (fun e => (h.x _ (by omega) (by omega) _ e).trans ?_) h.ng h.scl h.shl e
    exact congrArg (fun z => X (ix3 b z e)) (Fin.ext (by show 256 * (3 * q.val + r.val / 256) + r.val % 256 = 768 * q.val + r.val; omega))

/-- the gate, -/
theorem Reads.gateRow (h : Reads B X C Shl Scl Shc Scc W Ng Kg U b q) (r : Fin 768) (e : Fin 1024) :
    gateR B r e = gateOf (hidAt X C Shl Scl Shc Scc Ng) W (ix3 b (row q r) e) := by
  show _ = gateAt (hidAt X C Shl Scl Shc Scc Ng) W b (row q r) e
  unfold gateR gateAt
  exact congrArg silu (Finset.sum_congr rfl fun k _ => congrArg₂ (· * ·) (h.hid r k) (h.gate k e))

/-- and the values. -/
theorem Reads.valRow (h : Reads B X C Shl Scl Shc Scc W Ng Kg U b q) (d r : Fin 768) :
    valR B d r = valueOf (hidAt X C Shl Scl Shc Scc Ng) W Kg U (ix3 b d (row q r)) := by
  show _ = value (hidAt X C Shl Scl Shc Scc Ng b (row q r)) W Kg U d
  unfold valR value
  by_cases hd : d.val < 384
  · rw [dif_pos hd, dif_pos hd]
    refine Finset.sum_congr rfl fun k _ => congrArg₂ (· * ·) (h.uv _ k) (congrArg₂ (fun z g => latRow z g k) (funext fun j => ?_) (funext h.kg))
    exact Finset.sum_congr rfl fun e _ => congrArg₂ (· * ·) (h.hid r e) (h.latent e j)
  · rw [dif_neg hd, dif_neg hd]
    exact Finset.sum_congr rfl fun e _ => congrArg₂ (· * ·) (h.gv _ e) (h.hid r e)

/-- The blocks of a grid point, named. -/
def blocks {F : FTy → Type} [FloatOps F] (i : grid0.Coords) (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x18 : Vec F S1x256 .f32) (x20 : Vec F S384x256 .bf16) (x21 : Vec F S128x1024 .bf16) : Blocks F where
  i := i
  x := pick x0 x1 x2
  xp := pick x3 x4 x5
  xn := pick x6 x7 x8
  ctx := x9
  shl := x10
  scl := x11
  shc := x12
  scc := x13
  ng := x14
  w := x15
  kg := x18
  uv := x20
  gv := x21

/-- Three blocks that read their tiles, none past the last, are a triple's tiles. -/
theorem pick_at {x0 x1 x2 : Vec Ideal S1x256x1024 .f32} (h0 : ∀ (r : Fin 256) (e : Fin 1024), x0 (ix3 0 r e) = X (ix3 b ⟨256 * min (3 * q.val) 7 + r.val, by omega⟩ e))
    (h1 : ∀ (r : Fin 256) (e : Fin 1024), x1 (ix3 0 r e) = X (ix3 b ⟨256 * min (3 * q.val + 1) 7 + r.val, by omega⟩ e))
    (h2 : ∀ (r : Fin 256) (e : Fin 1024), x2 (ix3 0 r e) = X (ix3 b ⟨256 * min (3 * q.val + 2) 7 + r.val, by omega⟩ e))
    (s : ℕ) (h : 3 * q.val + s < 8) (hs : s < 3) (r : Fin 256) (e : Fin 1024) : pick x0 x1 x2 s (ix3 0 r e) = X (ix3 b ⟨256 * (3 * q.val + s) + r.val, by omega⟩ e) := by
  match s, hs with
  | 0, _ => exact (h0 r e).trans (congrArg (fun z => X (ix3 b z e)) (Fin.ext (by show 256 * min (3 * q.val) 7 + r.val = 256 * (3 * q.val + 0) + r.val; omega)))
  | 1, _ => exact (h1 r e).trans (congrArg (fun z => X (ix3 b z e)) (Fin.ext (by show 256 * min (3 * q.val + 1) 7 + r.val = 256 * (3 * q.val + 1) + r.val; omega)))
  | 2, _ => exact (h2 r e).trans (congrArg (fun z => X (ix3 b z e)) (Fin.ext (by show 256 * min (3 * q.val + 2) 7 + r.val = 256 * (3 * q.val + 2) + r.val; omega)))

/-- Blocks that read their arrays so are those of the tile triple. -/
theorem reads_of {i : grid0.Coords} {x0 x1 x2 : Vec Ideal S1x256x1024 .f32} {x3 x4 x5 x6 x7 x8 : Vec Ideal S1x8x1024 .f32} {x9 : Vec Ideal S1x256x1024 .f32} {x10 x11 : Vec Ideal S1x1x1024 .f32} {x12 x13 x14 : Vec Ideal S1x1024 .f32} {x15 : Vec Ideal S1024x3328 .bf16} {x18 : Vec Ideal S1x256 .f32} {x20 : Vec Ideal S384x256 .bf16} {x21 : Vec Ideal S128x1024 .bf16}
    (hi : (i 1).val = q.val)
    (h0 : ∀ (r : Fin 256) (e : Fin 1024), x0 (ix3 0 r e) = X (ix3 b ⟨256 * min (3 * q.val) 7 + r.val, by omega⟩ e))
    (h1 : ∀ (r : Fin 256) (e : Fin 1024), x1 (ix3 0 r e) = X (ix3 b ⟨256 * min (3 * q.val + 1) 7 + r.val, by omega⟩ e))
    (h2 : ∀ (r : Fin 256) (e : Fin 1024), x2 (ix3 0 r e) = X (ix3 b ⟨256 * min (3 * q.val + 2) 7 + r.val, by omega⟩ e))
    (h9 : ∀ (r : Fin 256) (e : Fin 1024), x9 (ix3 0 r e) = C (ix3 b r e))
    (h10 : ∀ e : Fin 1024, x10 (ix3 0 0 e) = Shl (ix3 b 0 e)) (h11 : ∀ e : Fin 1024, x11 (ix3 0 0 e) = Scl (ix3 b 0 e))
    (h12 : ∀ e : Fin 1024, x12 (ix2 0 e) = Shc (ix2 0 e)) (h13 : ∀ e : Fin 1024, x13 (ix2 0 e) = Scc (ix2 0 e)) (h14 : ∀ e : Fin 1024, x14 (ix2 0 e) = Ng (ix1 e))
    (hg : ∀ k j : Fin 1024, x15 (ix2 k ⟨2304 + j.val, by omega⟩) = W (ix2 k ⟨2096 + j.val, by omega⟩))
    (hl : ∀ (k : Fin 1024) (j : Fin 256), x15 (ix2 k ⟨384 + j.val, by omega⟩) = W (ix2 k ⟨384 + j.val, by omega⟩))
    (h18 : ∀ e : Fin 256, x18 (ix2 0 e) = Kg (ix1 e))
    (h20 : ∀ (d : Fin 384) (k : Fin 256), x20 (ix2 d k) = U (ix2 k ⟨d.val / 64 * 128 + (64 + d.val % 64), by omega⟩))
    (h21 : ∀ (d : Fin 128) (k : Fin 1024), x21 (ix2 d k) = W (ix2 k ⟨1184 + d.val, by omega⟩)) :
    Reads (blocks i x0 x1 x2 x3 x4 x5 x6 x7 x8 x9 x10 x11 x12 x13 x14 x15 x18 x20 x21) X C Shl Scl Shc Scc W Ng Kg U b q where
  i := hi
  x := pick_at h0 h1 h2
  ctx := h9
  shl := h10
  scl := h11
  shc := h12
  scc := h13
  ng := h14
  kg := h18
  gate := hg
  latent := hl
  uv := h20
  gv := h21

end Cert.Kernel3Ideal.Prj
-- ==== Proof.Prj.Arrays.lean ====
/-
  The arrays and blocks that the input projection reads, from its arguments.
-/
module

public import proofs.«01_k».proof.Proof.Prj.Point
public import proofs.«01_k».proof.Proof.Gen.Kernel3Ideal.Frame.Runs

@[expose] public section

set_option maxRecDepth 16384

noncomputable section

namespace Cert.Kernel3Ideal.Prj

open Cert.Kernel3Ideal Cert.Kernel3Ideal.Gen
open Idealize.ShloMosaic Idealize.ShloMosaic.TcCoe
open Cert.Kernel2Ideal.Mrg (ix2_ext ix3_ext ix4_ext)

/-! ## Where the blocks lie -/

/-- Point `t` is the tile triple `t % 3` of batch `t / 3`; the block of each array: of the tokens the three tiles, none past the last; of the
    context the batch; of the gains and weights, all. -/
theorem index_x0 : ∀ t : Fin cfg0.N, win0_0.index t 0 = t.val / 3 ∧ win0_0.index t 1 = min (3 * (t.val % 3)) 7 ∧ win0_0.index t 2 = 0 := by decide +kernel
theorem index_x1 : ∀ t : Fin cfg0.N, win0_1.index t 0 = t.val / 3 ∧ win0_1.index t 1 = min (3 * (t.val % 3) + 1) 7 ∧ win0_1.index t 2 = 0 := by decide +kernel
theorem index_x2 : ∀ t : Fin cfg0.N, win0_2.index t 0 = t.val / 3 ∧ win0_2.index t 1 = min (3 * (t.val % 3) + 2) 7 ∧ win0_2.index t 2 = 0 := by decide +kernel
theorem index_ctx : ∀ t : Fin cfg0.N, win0_9.index t 0 = t.val / 3 ∧ win0_9.index t 1 = 0 ∧ win0_9.index t 2 = 0 := by decide +kernel
theorem index_shl : ∀ t : Fin cfg0.N, win0_10.index t 0 = t.val / 3 ∧ win0_10.index t 1 = 0 ∧ win0_10.index t 2 = 0 := by decide +kernel
theorem index_scl : ∀ t : Fin cfg0.N, win0_11.index t 0 = t.val / 3 ∧ win0_11.index t 1 = 0 ∧ win0_11.index t 2 = 0 := by decide +kernel
theorem index_shc : ∀ t : Fin cfg0.N, win0_12.index t 0 = 0 ∧ win0_12.index t 1 = 0 := by decide +kernel
theorem index_scc : ∀ t : Fin cfg0.N, win0_13.index t 0 = 0 ∧ win0_13.index t 1 = 0 := by decide +kernel
theorem index_ng : ∀ t : Fin cfg0.N, win0_14.index t 0 = 0 ∧ win0_14.index t 1 = 0 := by decide +kernel
theorem index_w : ∀ t : Fin cfg0.N, win0_15.index t 0 = 0 ∧ win0_15.index t 1 = 0 := by decide +kernel
theorem index_kg : ∀ t : Fin cfg0.N, win0_18.index t 0 = 0 ∧ win0_18.index t 1 = 0 := by decide +kernel
theorem index_uv : ∀ t : Fin cfg0.N, win0_20.index t 0 = 0 ∧ win0_20.index t 1 = 0 := by decide +kernel
theorem index_gv : ∀ t : Fin cfg0.N, win0_21.index t 0 = 0 ∧ win0_21.index t 1 = 0 := by decide +kernel
theorem index_v : ∀ t : Fin cfg0.N, win0_34.index t 0 = t.val / 3 ∧ win0_34.index t 1 = 0 ∧ win0_34.index t 2 = t.val % 3 := by decide +kernel
theorem index_sg : ∀ t : Fin cfg0.N, win0_37.index t 0 = t.val / 3 ∧ win0_37.index t 1 = t.val % 3 ∧ win0_37.index t 2 = 0 := by decide +kernel
theorem size_v : ∀ t : Fin cfg0.N, win0_34.xsize (grid0.coords t) 0 = 1 ∧ win0_34.xsize (grid0.coords t) 1 = 768 ∧ win0_34.xsize (grid0.coords t) 2 = 768 := by decide +kernel
theorem size_sg : ∀ t : Fin cfg0.N, win0_37.xsize (grid0.coords t) 0 = 1 ∧ win0_37.xsize (grid0.coords t) 1 = 768 ∧ win0_37.xsize (grid0.coords t) 2 = 1024 := by decide +kernel
theorem coord1 : ∀ t : Fin cfg0.N, ((grid0.coords t) 1).val = t.val % 3 := by decide +kernel

/-- There are 48 points. -/
theorem point_lt (t : Fin cfg0.N) : t.val < 48 := t.isLt.trans_eq N_0

variable (m : (ℓ : Loc nD τ sig) → Buf (Elt Ideal) ℓ) (c : Dev nD) (t : Fin cfg0.N)

/-- The tokens, -/
def argX : FVec Ideal S16x2048x1024 .f32 := m ((c.tc : Thread nD τ).loc main_arg0)
/-- the context, -/
def argC : FVec Ideal S16x256x1024 .f32 := m ((c.tc : Thread nD τ).loc main_arg1)
/-- the tokens' shift, -/
def argShl : FVec Ideal S16x1x1024 .f32 := m ((c.tc : Thread nD τ).loc main_arg2)
/-- and scale, -/
def argScl : FVec Ideal S16x1x1024 .f32 := m ((c.tc : Thread nD τ).loc main_arg3)
/-- the context's shift, -/
def argShc : FVec Ideal S1x1024 .f32 := m ((c.tc : Thread nD τ).loc main_arg4)
/-- and scale, -/
def argScc : FVec Ideal S1x1024 .f32 := m ((c.tc : Thread nD τ).loc main_arg5)
/-- the projection, -/
def argW : FVec Ideal S1024x3120 .f32 := m ((c.tc : Thread nD τ).loc main_arg6)
/-- the norm's gain, -/
def argNg : FVec Ideal S1024 .f32 := m ((c.tc : Thread nD τ).loc main_arg7)
/-- the latent norm's gain, -/
def argKg : FVec Ideal S256 .f32 := m ((c.tc : Thread nD τ).loc main_arg10)
/-- the latents' expansion. -/
def argU : FVec Ideal S256x768 .f32 := m ((c.tc : Thread nD τ).loc main_arg11)

/-! ## The arrays made before the launch -/

theorem norm_at (k : Fin 1024) : (V m c main_v28 : FVec Ideal S1x1024 .f32) (ix2 0 k) = argNg m c (ix1 k) := by
  have e : (V m c main_v28 : FVec Ideal S1x1024 .f32) = shapeCast _ (argNg m c) shapeCasts_S1024_S1x1024 := by
    unfold V
    after_results_simp
    rfl
  rw [e]
  pointwise

theorem latent_at (k : Fin 256) : (V m c main_v32 : FVec Ideal S1x256 .f32) (ix2 0 k) = argKg m c (ix1 k) := by
  have e : (V m c main_v32 : FVec Ideal S1x256 .f32) = shapeCast _ (argKg m c) shapeCasts_S256_S1x256 := by
    unfold V
    after_results_simp
    rfl
  rw [e]
  pointwise

/-- The projection with its columns rearranged for the kernel, the rearranged groups that are not read here left open. -/
theorem columns : ∃ (v12 : FVec Ideal S1024x128 .f32) (v15 : FVec Ideal S1024x256 .f32) (v17 : FVec Ideal S1024x128 .f32),
    (V m c main_v19 : FVec Ideal S1024x3328 .bf16) = truncf .bf16 (concatenate S1024x3328 1 [⟨S1024x384, extractStridedSlice S1024x384 ![0, 0] (argW m c) slices_S1024x3120_S1024x384_0_0⟩, ⟨S1024x256, extractStridedSlice S1024x256 ![0, 384] (argW m c) slices_S1024x3120_S1024x256_0_384⟩, ⟨S1024x128, v12⟩, ⟨S1024x384, extractStridedSlice S1024x384 ![0, 672] (argW m c) slices_S1024x3120_S1024x384_0_672⟩, ⟨S1024x256, v15⟩, ⟨S1024x768, extractStridedSlice S1024x768 ![0, 1312] (argW m c) slices_S1024x3120_S1024x768_0_1312⟩, ⟨S1024x128, v17⟩, ⟨S1024x1024, extractStridedSlice S1024x1024 ![0, 2096] (argW m c) slices_S1024x3120_S1024x1024_0_2096⟩] concatenates_S1024x384_S1024x256_S1024x128_S1024x384_S1024x256_S1024x768_S1024x128_S1024x1024_S1024x3328_d1) bitsLt_bf16_f32 :=
  ⟨_, _, _, by
    unfold V
    after_results_simp
    rfl⟩

/-- The gate's columns of the projection, -/
theorem gate_cols (k j : Fin 1024) : (V m c main_v19 : FVec Ideal S1024x3328 .bf16) (ix2 k ⟨2304 + j.val, by omega⟩) = argW m c (ix2 k ⟨2096 + j.val, by omega⟩) := by
  obtain ⟨v12, v15, v17, e⟩ := columns m c
  rw [e]
  pointwise
  rw [dif_neg (by omega), dif_neg (by omega), dif_neg (by omega), dif_neg (by omega), dif_neg (by omega), dif_neg (by omega), dif_neg (by omega)]
  exact congrArg (fun z => argW m c (ix2 k z)) (Fin.ext (by show 2096 + (2304 + j.val - 384 - 256 - 128 - 384 - 256 - 768 - 128) = 2096 + j.val; omega))

/-- the latents', -/
theorem latent_cols (k : Fin 1024) (j : Fin 256) : (V m c main_v19 : FVec Ideal S1024x3328 .bf16) (ix2 k ⟨384 + j.val, by omega⟩) = argW m c (ix2 k ⟨384 + j.val, by omega⟩) := by
  obtain ⟨v12, v15, v17, e⟩ := columns m c
  rw [e]
  pointwise

/-- the grouped values', as rows, -/
theorem grouped_rows (d : Fin 128) (k : Fin 1024) : (V m c main_v39 : FVec Ideal S128x1024 .bf16) (ix2 d k) = argW m c (ix2 k ⟨1184 + d.val, by omega⟩) := by
  have e : (V m c main_v39 : FVec Ideal S128x1024 .bf16) = truncf .bf16 (transpose S128x1024 [1, 0]
      (extractStridedSlice S1024x128 ![0, 1184] (argW m c) slices_S1024x3120_S1024x128_0_1184) transposes_S1024x128_S128x1024_1_0) bitsLt_bf16_f32 := by
    unfold V
    after_results_simp
    rfl
  rw [e]
  pointwise

/-- and the latents' expansion into values, as rows. -/
theorem expand_rows (d : Fin 384) (k : Fin 256) : (V m c main_v37 : FVec Ideal S384x256 .bf16) (ix2 d k) = argU m c (ix2 k ⟨d.val / 64 * 128 + (64 + d.val % 64), by omega⟩) := by
  have e : (V m c main_v37 : FVec Ideal S384x256 .bf16) = truncf .bf16 (transpose S384x256 [1, 0] (shapeCast S256x384
      (extractStridedSlice S256x6x64 ![0, 0, 64] (shapeCast S256x6x128 (argU m c) shapeCasts_S256x768_S256x6x128) slices_S256x6x128_S256x6x64_0_0_64) shapeCasts_S256x6x64_S256x384)
      transposes_S256x384_S384x256_1_0) bitsLt_bf16_f32 := by
    unfold V
    after_results_simp
    rfl
  rw [e]
  pointwise

/-! ## The blocks -/

/-- Point `t` works on batch `t / 3`, -/
def bat : Fin 16 := ⟨t.val / 3, by have := point_lt t; omega⟩

/-- its tile triple `t % 3`. -/
def tri : Fin 3 := ⟨t.val % 3, by omega⟩

/-- The blocks of the first tile's tokens, the second's, -/
theorem x0_at (r : Fin 256) (e : Fin 1024) : (iblk m c 0 t : Vec Ideal S1x256x1024 .f32) (ix3 0 r e) = argX m c (ix3 (bat t) ⟨256 * min (3 * (tri t).val) 7 + r.val, by omega⟩ e) := by
  obtain ⟨h0, h1, h2⟩ := index_x0 t
  unfold iblk
  rw [View.read_apply]
  show V m c main_arg0 _ = _
  rw [V_main_arg0]
  refine congrArg (argX m c) (ix3_ext ?_ ?_ ?_)
  · show win0_0.index t 0 * 1 + 1 * 0 = t.val / 3; omega
  · show win0_0.index t 1 * 256 + 1 * r.val = 256 * min (3 * (tri t).val) 7 + r.val; have ht : (tri t).val = t.val % 3 := rfl; omega
  · show win0_0.index t 2 * 1024 + 1 * e.val = e.val; omega

theorem x1_at (r : Fin 256) (e : Fin 1024) : (iblk m c 1 t : Vec Ideal S1x256x1024 .f32) (ix3 0 r e) = argX m c (ix3 (bat t) ⟨256 * min (3 * (tri t).val + 1) 7 + r.val, by omega⟩ e) := by
  obtain ⟨h0, h1, h2⟩ := index_x1 t
  unfold iblk
  rw [View.read_apply]
  show V m c main_arg0 _ = _
  rw [V_main_arg0]
  refine congrArg (argX m c) (ix3_ext ?_ ?_ ?_)
  · show win0_1.index t 0 * 1 + 1 * 0 = t.val / 3; omega
  · show win0_1.index t 1 * 256 + 1 * r.val = 256 * min (3 * (tri t).val + 1) 7 + r.val; have ht : (tri t).val = t.val % 3 := rfl; omega
  · show win0_1.index t 2 * 1024 + 1 * e.val = e.val; omega

/-- and the third's, -/
theorem x2_at (r : Fin 256) (e : Fin 1024) : (iblk m c 2 t : Vec Ideal S1x256x1024 .f32) (ix3 0 r e) = argX m c (ix3 (bat t) ⟨256 * min (3 * (tri t).val + 2) 7 + r.val, by omega⟩ e) := by
  obtain ⟨h0, h1, h2⟩ := index_x2 t
  unfold iblk
  rw [View.read_apply]
  show V m c main_arg0 _ = _
  rw [V_main_arg0]
  refine congrArg (argX m c) (ix3_ext ?_ ?_ ?_)
  · show win0_2.index t 0 * 1 + 1 * 0 = t.val / 3; omega
  · show win0_2.index t 1 * 256 + 1 * r.val = 256 * min (3 * (tri t).val + 2) 7 + r.val; have ht : (tri t).val = t.val % 3 := rfl; omega
  · show win0_2.index t 2 * 1024 + 1 * e.val = e.val; omega

/-- the context's, -/
theorem ctx_at (r : Fin 256) (e : Fin 1024) : (iblk m c 9 t : Vec Ideal S1x256x1024 .f32) (ix3 0 r e) = argC m c (ix3 (bat t) r e) := by
  obtain ⟨h0, h1, h2⟩ := index_ctx t
  unfold iblk
  rw [View.read_apply]
  show V m c main_arg1 _ = _
  rw [V_main_arg1]
  refine congrArg (argC m c) (ix3_ext ?_ ?_ ?_)
  · show win0_9.index t 0 * 1 + 1 * 0 = t.val / 3; omega
  · show win0_9.index t 1 * 256 + 1 * r.val = r.val; omega
  · show win0_9.index t 2 * 1024 + 1 * e.val = e.val; omega

/-- the tokens' shift and scale, -/
theorem shl_at (e : Fin 1024) : (iblk m c 10 t : Vec Ideal S1x1x1024 .f32) (ix3 0 0 e) = argShl m c (ix3 (bat t) 0 e) := by
  obtain ⟨h0, h1, h2⟩ := index_shl t
  unfold iblk
  rw [View.read_apply]
  show V m c main_arg2 _ = _
  rw [V_main_arg2]
  refine congrArg (argShl m c) (ix3_ext ?_ ?_ ?_)
  · show win0_10.index t 0 * 1 + 1 * 0 = t.val / 3; omega
  · show win0_10.index t 1 * 1 + 1 * 0 = 0; omega
  · show win0_10.index t 2 * 1024 + 1 * e.val = e.val; omega

theorem scl_at (e : Fin 1024) : (iblk m c 11 t : Vec Ideal S1x1x1024 .f32) (ix3 0 0 e) = argScl m c (ix3 (bat t) 0 e) := by
  obtain ⟨h0, h1, h2⟩ := index_scl t
  unfold iblk
  rw [View.read_apply]
  show V m c main_arg3 _ = _
  rw [V_main_arg3]
  refine congrArg (argScl m c) (ix3_ext ?_ ?_ ?_)
  · show win0_11.index t 0 * 1 + 1 * 0 = t.val / 3; omega
  · show win0_11.index t 1 * 1 + 1 * 0 = 0; omega
  · show win0_11.index t 2 * 1024 + 1 * e.val = e.val; omega

/-- the context's, -/
theorem shc_at (e : Fin 1024) : (iblk m c 12 t : Vec Ideal S1x1024 .f32) (ix2 0 e) = argShc m c (ix2 0 e) := by
  obtain ⟨h0, h1⟩ := index_shc t
  unfold iblk
  rw [View.read_apply]
  show V m c main_arg4 _ = _
  rw [V_main_arg4]
  refine congrArg (argShc m c) (ix2_ext ?_ ?_)
  · show win0_12.index t 0 * 1 + 1 * 0 = 0; omega
  · show win0_12.index t 1 * 1024 + 1 * e.val = e.val; omega

theorem scc_at (e : Fin 1024) : (iblk m c 13 t : Vec Ideal S1x1024 .f32) (ix2 0 e) = argScc m c (ix2 0 e) := by
  obtain ⟨h0, h1⟩ := index_scc t
  unfold iblk
  rw [View.read_apply]
  show V m c main_arg5 _ = _
  rw [V_main_arg5]
  refine congrArg (argScc m c) (ix2_ext ?_ ?_)
  · show win0_13.index t 0 * 1 + 1 * 0 = 0; omega
  · show win0_13.index t 1 * 1024 + 1 * e.val = e.val; omega

/-- the gains, -/
theorem ng_at (e : Fin 1024) : (iblk m c 14 t : Vec Ideal S1x1024 .f32) (ix2 0 e) = argNg m c (ix1 e) := by
  obtain ⟨h0, h1⟩ := index_ng t
  unfold iblk
  rw [View.read_apply]
  refine Eq.trans (congrArg (V m c main_v28 : FVec Ideal S1x1024 .f32) (ix2_ext ?_ ?_)) (norm_at m c e)
  · show win0_14.index t 0 * 1 + 1 * 0 = 0; omega
  · show win0_14.index t 1 * 1024 + 1 * e.val = e.val; omega

theorem kg_at (e : Fin 256) : (iblk m c 18 t : Vec Ideal S1x256 .f32) (ix2 0 e) = argKg m c (ix1 e) := by
  obtain ⟨h0, h1⟩ := index_kg t
  unfold iblk
  rw [View.read_apply]
  refine Eq.trans (congrArg (V m c main_v32 : FVec Ideal S1x256 .f32) (ix2_ext ?_ ?_)) (latent_at m c e)
  · show win0_18.index t 0 * 1 + 1 * 0 = 0; omega
  · show win0_18.index t 1 * 256 + 1 * e.val = e.val; omega

/-- and the weights. -/
theorem w_at (k : Fin 1024) (j : Fin 3328) : (iblk m c 15 t : Vec Ideal S1024x3328 .bf16) (ix2 k j) = (V m c main_v19 : FVec Ideal S1024x3328 .bf16) (ix2 k j) := by
  obtain ⟨h0, h1⟩ := index_w t
  unfold iblk
  rw [View.read_apply]
  refine congrArg (V m c main_v19 : FVec Ideal S1024x3328 .bf16) (ix2_ext ?_ ?_)
  · show win0_15.index t 0 * 1024 + 1 * k.val = k.val; omega
  · show win0_15.index t 1 * 3328 + 1 * j.val = j.val; omega

theorem uv_at (d : Fin 384) (k : Fin 256) : (iblk m c 20 t : Vec Ideal S384x256 .bf16) (ix2 d k) = argU m c (ix2 k ⟨d.val / 64 * 128 + (64 + d.val % 64), by omega⟩) := by
  obtain ⟨h0, h1⟩ := index_uv t
  unfold iblk
  rw [View.read_apply]
  refine Eq.trans (congrArg (V m c main_v37 : FVec Ideal S384x256 .bf16) (ix2_ext ?_ ?_)) (expand_rows m c d k)
  · show win0_20.index t 0 * 384 + 1 * d.val = d.val; omega
  · show win0_20.index t 1 * 256 + 1 * k.val = k.val; omega

theorem gv_at (d : Fin 128) (k : Fin 1024) : (iblk m c 21 t : Vec Ideal S128x1024 .bf16) (ix2 d k) = argW m c (ix2 k ⟨1184 + d.val, by omega⟩) := by
  obtain ⟨h0, h1⟩ := index_gv t
  unfold iblk
  rw [View.read_apply]
  refine Eq.trans (congrArg (V m c main_v39 : FVec Ideal S128x1024 .bf16) (ix2_ext ?_ ?_)) (grouped_rows m c d k)
  · show win0_21.index t 0 * 128 + 1 * d.val = d.val; omega
  · show win0_21.index t 1 * 1024 + 1 * k.val = k.val; omega

/-- So the point's blocks are those of its tile triple. -/
theorem reads : Reads (blocks (grid0.coords t) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 18 t) (iblk m c 20 t) (iblk m c 21 t))
    (argX m c) (argC m c) (argShl m c) (argScl m c) (argShc m c) (argScc m c) (argW m c) (argNg m c) (argKg m c) (argU m c) (bat t) (tri t) :=
  reads_of (coord1 t) (x0_at m c t) (x1_at m c t) (x2_at m c t) (ctx_at m c t) (shl_at m c t) (scl_at m c t) (shc_at m c t) (scc_at m c t) (ng_at m c t)
    (fun k j => (w_at m c t k _).trans (gate_cols m c k j)) (fun k j => (w_at m c t k _).trans (latent_cols m c k j)) (kg_at m c t) (uv_at m c t) (gv_at m c t)

end Cert.Kernel3Ideal.Prj
-- ==== Proof.Prj.RunA.lean ====
/-
  The run of the body of the input projection, over any floats, for the program whose floats are read as extended reals: what it stores into each output's block.
-/
module

public import proofs.«01_k».proof.Proof.Gen.Kernel3Ideal.Frame.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 24320000 in
/-- What the body stores into each output's block, the last store first, and the proof that it runs so, the inputs' blocks kept as they were. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) :
    Σ' (L32 : List (View.Piece (Elt F) S1x12x768x128 .bf16)), Σ' (L33 : List (View.Piece (Elt F) S1x12x768x128 .bf16)), Σ' (L34 : List (View.Piece (Elt F) S1x768x768 .bf16)), Σ' (L35 : List (View.Piece (Elt F) S1x768x768 .f32)), Σ' (L36 : List (View.Piece (Elt F) S1x768x128 .f32)), { L37 : List (View.Piece (Elt F) S1x768x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33) ∗ (∃ f, arg36.view.loc (c : Thread nD τ) ↦[arg36.view.set]{fullShare} arg36.view.writes (Elt F) f L34) ∗ (∃ f, arg37.view.loc (c : Thread nD τ) ↦[arg37.view.set]{fullShare} arg37.view.writes (Elt F) f L35) ∗ (∃ f, arg38.view.loc (c : Thread nD τ) ↦[arg38.view.set]{fullShare} arg38.view.writes (Elt F) f L36) ∗ (∃ f, arg39.view.loc (c : Thread nD τ) ↦[arg39.view.set]{fullShare} arg39.view.writes (Elt F) f L37)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, ?_, ?_, ?_, fun E K => ?run⟩
  case run =>
    simp only [cc0_inproj_eq_skeleton]; unfold cc0_inproj_skel
    simp only [k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]; · iexists _; iexact H32
    isplitl [H33]; · iexists _; iexact H33
    isplitl [H34]; · iexists _; iexact H34
    isplitl [H35]; · iexists _; iexact H35
    isplitl [H36]; · iexists _; iexact H36
    iexists _; iexact H37

end Cert.Kernel3Ideal.Gen

end
-- ==== Proof.Prj.Pieces.lean ====
/-
  What the run of the body of the input projection stores into the blocks of the values and of the gate.
-/
module

public import proofs.«01_k».proof.Proof.Prj.Point
public import proofs.«01_k».proof.Proof.Prj.RunA

@[expose] public section

set_option maxRecDepth 16384

noncomputable section

namespace Cert.Kernel3Ideal.Prj

open Cert.Kernel3Ideal Cert.Kernel3Ideal.Gen
open Idealize.ShloMosaic Idealize.ShloMosaic.TcCoe
open Cert.Kernel2Ideal.Mrg (readAt_contents)

variable {F : FTy → Type} [FloatOps F]

/-- The first tile's rows before their norm, stacked by the body itself rather than by a payload. -/
theorem concat_eq (c : Dev nD) (i : grid0.Coords) (arg2 : Memref sig .tc .vmem S1x256x1024 .f32) (harg2 : arg2.IsWhole) (arg5 : Memref sig .tc .vmem S1x8x1024 .f32) (harg5 : arg5.IsWhole)
    (arg8 : Memref sig .tc .vmem S1x8x1024 .f32) (harg8 : arg8.IsWhole) (arg11 : Memref sig .tc .vmem S1x256x1024 .f32) (harg11 : arg11.IsWhole)
    (x0 : Vec F S1x256x1024 .f32) (x3 x6 : Vec F S1x8x1024 .f32) (x9 : Vec F S1x256x1024 .f32) :
    kernelRun0_A.sl.v20 c i arg2 harg2 arg5 harg5 arg8 harg8 arg11 harg11 x0 x3 x6 x9
      = k0_pay10 (kernelRun0_A.sl.v5 i) (View.ld x9 (Rect.unit ![0, 0, 0] ![1, 256, 1024] inb_S1x256x1024_S1x256x1024_0_0_0)) (View.ld x0 (Rect.unit ![0, 0, 0] ![1, 256, 1024] inb_S1x256x1024_S1x256x1024_0_0_0))
        (View.ld x3 (Rect.unit ![0, 0, 0] ![1, 8, 1024] inb_S1x8x1024_S1x8x1024_0_0_0)) (View.ld x6 (Rect.unit ![0, 0, 0] ![1, 8, 1024] inb_S1x8x1024_S1x8x1024_0_0_0)) := by
  rw [← readAt_contents harg11, ← readAt_contents harg2, ← readAt_contents harg5, ← readAt_contents harg8]
  rfl

set_option maxHeartbeats 4000000 in
/-- The gate's stores. -/
theorem gate_pieces (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.2.1
      = [gateP (blocks i x0 x1 x2 x3 x4 x5 x6 x7 x8 x9 x10 x11 x12 x13 x14 x15 x18 x20 x21) 2 512 (by decide), gateP (blocks i x0 x1 x2 x3 x4 x5 x6 x7 x8 x9 x10 x11 x12 x13 x14 x15 x18 x20 x21) 1 256 (by decide), gateP (blocks i x0 x1 x2 x3 x4 x5 x6 x7 x8 x9 x10 x11 x12 x13 x14 x15 x18 x20 x21) 0 0 (by decide)] := by
  unfold kernelRun0_A
  dsimp only
  simp only [concat_eq, kernelRun0_A.sl.v4, kernelRun0_A.sl.v5, kernelRun0_A.sl.v7, kernelRun0_A.sl.v9, kernelRun0_A.sl.v10, kernelRun0_A.sl.v23, kernelRun0_A.sl.v24, kernelRun0_A.sl.v52, kernelRun0_A.sl.v94, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, readAt_contents]
  rfl

set_option maxHeartbeats 4000000 in
/-- The values' stores. -/
theorem value_pieces (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.1
      = [latP (blocks i x0 x1 x2 x3 x4 x5 x6 x7 x8 x9 x10 x11 x12 x13 x14 x15 x18 x20 x21) 2 512 (by decide), latP (blocks i x0 x1 x2 x3 x4 x5 x6 x7 x8 x9 x10 x11 x12 x13 x14 x15 x18 x20 x21) 1 256 (by decide), latP (blocks i x0 x1 x2 x3 x4 x5 x6 x7 x8 x9 x10 x11 x12 x13 x14 x15 x18 x20 x21) 0 0 (by decide), grp1P (blocks i x0 x1 x2 x3 x4 x5 x6 x7 x8 x9 x10 x11 x12 x13 x14 x15 x18 x20 x21) 2 704 512 (by decide) (by decide), grp1P (blocks i x0 x1 x2 x3 x4 x5 x6 x7 x8 x9 x10 x11 x12 x13 x14 x15 x18 x20 x21) 2 640 512 (by decide) (by decide), grp1P (blocks i x0 x1 x2 x3 x4 x5 x6 x7 x8 x9 x10 x11 x12 x13 x14 x15 x18 x20 x21) 2 576 512 (by decide) (by decide), grp0P (blocks i x0 x1 x2 x3 x4 x5 x6 x7 x8 x9 x10 x11 x12 x13 x14 x15 x18 x20 x21) 2 512 512 (by decide) (by decide), grp0P (blocks i x0 x1 x2 x3 x4 x5 x6 x7 x8 x9 x10 x11 x12 x13 x14 x15 x18 x20 x21) 2 448 512 (by decide) (by decide), grp0P (blocks i x0 x1 x2 x3 x4 x5 x6 x7 x8 x9 x10 x11 x12 x13 x14 x15 x18 x20 x21) 2 384 512 (by decide) (by decide), grp1P (blocks i x0 x1 x2 x3 x4 x5 x6 x7 x8 x9 x10 x11 x12 x13 x14 x15 x18 x20 x21) 1 704 256 (by decide) (by decide), grp1P (blocks i x0 x1 x2 x3 x4 x5 x6 x7 x8 x9 x10 x11 x12 x13 x14 x15 x18 x20 x21) 1 640 256 (by decide) (by decide), grp1P (blocks i x0 x1 x2 x3 x4 x5 x6 x7 x8 x9 x10 x11 x12 x13 x14 x15 x18 x20 x21) 1 576 256 (by decide) (by decide), grp0P (blocks i x0 x1 x2 x3 x4 x5 x6 x7 x8 x9 x10 x11 x12 x13 x14 x15 x18 x20 x21) 1 512 256 (by decide) (by decide), grp0P (blocks i x0 x1 x2 x3 x4 x5 x6 x7 x8 x9 x10 x11 x12 x13 x14 x15 x18 x20 x21) 1 448 256 (by decide) (by decide), grp0P (blocks i x0 x1 x2 x3 x4 x5 x6 x7 x8 x9 x10 x11 x12 x13 x14 x15 x18 x20 x21) 1 384 256 (by decide) (by decide), grp1P (blocks i x0 x1 x2 x3 x4 x5 x6 x7 x8 x9 x10 x11 x12 x13 x14 x15 x18 x20 x21) 0 704 0 (by decide) (by decide), grp1P (blocks i x0 x1 x2 x3 x4 x5 x6 x7 x8 x9 x10 x11 x12 x13 x14 x15 x18 x20 x21) 0 640 0 (by decide) (by decide), grp1P (blocks i x0 x1 x2 x3 x4 x5 x6 x7 x8 x9 x10 x11 x12 x13 x14 x15 x18 x20 x21) 0 576 0 (by decide) (by decide), grp0P (blocks i x0 x1 x2 x3 x4 x5 x6 x7 x8 x9 x10 x11 x12 x13 x14 x15 x18 x20 x21) 0 512 0 (by decide) (by decide), grp0P (blocks i x0 x1 x2 x3 x4 x5 x6 x7 x8 x9 x10 x11 x12 x13 x14 x15 x18 x20 x21) 0 448 0 (by decide) (by decide), grp0P (blocks i x0 x1 x2 x3 x4 x5 x6 x7 x8 x9 x10 x11 x12 x13 x14 x15 x18 x20 x21) 0 384 0 (by decide) (by decide)] := by
  unfold kernelRun0_A
  dsimp only
  simp only [concat_eq, kernelRun0_A.sl.v4, kernelRun0_A.sl.v5, kernelRun0_A.sl.v7, kernelRun0_A.sl.v9, kernelRun0_A.sl.v10, kernelRun0_A.sl.v23, kernelRun0_A.sl.v24, kernelRun0_A.sl.v52, kernelRun0_A.sl.v94, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, readAt_contents]
  rfl

end Cert.Kernel3Ideal.Prj
-- ==== Proof.Prj.Frame.lean ====
/-
  The frame of the input projection over the extended reals: what the run of its body leaves in each output's block, and the run of the whole pipeline.
-/
module

public import proofs.«01_k».proof.Proof.Prj.RunA
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into this output's block fill it. -/
theorem cover0_A_32 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) (y : S1x12x768x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).1 S1x1x256x128.size (by sl_kernel_rfl) y

/-- What the body leaves in this output's block. -/
def out0_A_32 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) : Vec F S1x12x768x128 .bf16 :=
  VO0_32.read (Elt F) (VO0_32.writes (Elt F) VO0_32.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).1)

/-- The stores into this output's block fill it. -/
theorem cover0_A_33 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) (y : S1x12x768x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.1 S1x1x256x128.size (by sl_kernel_rfl) y

/-- What the body leaves in this output's block. -/
def out0_A_33 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) : Vec F S1x12x768x128 .bf16 :=
  VO0_33.read (Elt F) (VO0_33.writes (Elt F) VO0_33.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.1)

/-- The stores into this output's block fill it. -/
theorem cover0_A_34 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) (y : S1x768x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.1 ![1, 64, 256] (by sl_kernel_rfl) y

/-- What the body leaves in this output's block. -/
def out0_A_34 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) : Vec F S1x768x768 .bf16 :=
  VO0_34.read (Elt F) (VO0_34.writes (Elt F) VO0_34.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.1)

/-- The stores into this output's block fill it. -/
theorem cover0_A_35 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) (y : S1x768x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.1 S1x256x256.size (by sl_kernel_rfl) y

/-- What the body leaves in this output's block. -/
def out0_A_35 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) : Vec F S1x768x768 .f32 :=
  VO0_35.read (Elt F) (VO0_35.writes (Elt F) VO0_35.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.1)

/-- The stores into this output's block fill it. -/
theorem cover0_A_36 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) (y : S1x768x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.1 S1x256x128.size (by sl_kernel_rfl) y

/-- What the body leaves in this output's block. -/
def out0_A_36 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) : Vec F S1x768x128 .f32 :=
  VO0_36.read (Elt F) (VO0_36.writes (Elt F) VO0_36.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.1)

/-- The stores into this output's block fill it. -/
theorem cover0_A_37 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) (y : S1x768x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.2.1 S1x256x1024.size (by sl_kernel_rfl) y

/-- What the body leaves in this output's block. -/
def out0_A_37 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec F S1x256x1024 .f32) (x1 : Vec F S1x256x1024 .f32) (x2 : Vec F S1x256x1024 .f32) (x3 : Vec F S1x8x1024 .f32) (x4 : Vec F S1x8x1024 .f32) (x5 : Vec F S1x8x1024 .f32) (x6 : Vec F S1x8x1024 .f32) (x7 : Vec F S1x8x1024 .f32) (x8 : Vec F S1x8x1024 .f32) (x9 : Vec F S1x256x1024 .f32) (x10 : Vec F S1x1x1024 .f32) (x11 : Vec F S1x1x1024 .f32) (x12 : Vec F S1x1024 .f32) (x13 : Vec F S1x1024 .f32) (x14 : Vec F S1x1024 .f32) (x15 : Vec F S1024x3328 .bf16) (x16 : Vec F S1x384 .f32) (x17 : Vec F S384x768 .bf16) (x18 : Vec F S1x256 .f32) (x19 : Vec F S256x768 .bf16) (x20 : Vec F S384x256 .bf16) (x21 : Vec F S128x1024 .bf16) (x22 : Vec F S1x384 .f32) (x23 : Vec F S1x256 .f32) (x24 : Vec F S8x768 .f32) (x25 : Vec F S1x128 .f32) (x26 : Vec F S1x128 .f32) (x27 : Vec F S768x128 .f32) (x28 : Vec F S768x128 .f32) (x29 : Vec F S768x128 .f32) (x30 : Vec F S768x128 .f32) (x31 : Vec F S384x384 .bf16) : Vec F S1x768x1024 .bf16 :=
  VO0_37.read (Elt F) (VO0_37.writes (Elt F) VO0_37.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31).2.2.2.2.2.1)

/-! ## What the outputs hold after each point -/

/-- What the body leaves in the outputs' blocks at point `t`. -/
def outsAt0 (c : Dev nD) (t : Fin cfg0.N) : Vec F S1x12x768x128 .bf16 × Vec F S1x12x768x128 .bf16 × Vec F S1x768x768 .bf16 × Vec F S1x768x768 .f32 × Vec F S1x768x128 .f32 × Vec F S1x768x1024 .bf16 :=
  (out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t), out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t), out0_A_36 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t), out0_A_37 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t))

/-! ## The pipeline's proof data -/

/-- What the blocks hold after the body at each point: an input's what it held, an output's `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => (outsAt0 m c t).1
    | ⟨33, _⟩ => (outsAt0 m c t).2.1
    | ⟨34, _⟩ => (outsAt0 m c t).2.2.1
    | ⟨35, _⟩ => (outsAt0 m c t).2.2.2.1
    | ⟨36, _⟩ => (outsAt0 m c t).2.2.2.2.1
    | ⟨37, _⟩ => (outsAt0 m c t).2.2.2.2.2
    | ⟨_ + 38, h⟩ => absurd h (Nat.not_lt.2 (Nat.le_add_left _ _))
  Φ _ := Pipeline.ΦA spec0 c
  q w := Pipeline.shareOf spec0 w
  owed _ := 0

/-- The arrays are those that the launch finds. -/
theorem A_eq (c : Dev nD) (w : Fin cfg0.W) : (dats m 0 c).A w = V m c (Pipeline.arrRef spec0 w) := by
  dsimp only [dats]

/-- What each block holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = (outsAt0 m c t).1 := by dsimp only [dats]
theorem after0_33 (c : Dev nD) (t : Fin cfg0.N) : (dats m 0 c).after 33 t = (outsAt0 m c t).2.1 := by dsimp only [dats]
theorem after0_34 (c : Dev nD) (t : Fin cfg0.N) : (dats m 0 c).after 34 t = (outsAt0 m c t).2.2.1 := by dsimp only [dats]
theorem after0_35 (c : Dev nD) (t : Fin cfg0.N) : (dats m 0 c).after 35 t = (outsAt0 m c t).2.2.2.1 := by dsimp only [dats]
theorem after0_36 (c : Dev nD) (t : Fin cfg0.N) : (dats m 0 c).after 36 t = (outsAt0 m c t).2.2.2.2.1 := by dsimp only [dats]
theorem after0_37 (c : Dev nD) (t : Fin cfg0.N) : (dats m 0 c).after 37 t = (outsAt0 m c t).2.2.2.2.2 := by dsimp only [dats]

/-- Each input's block holds its part of the array before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

/-! ## The body obligation, at a generic point -/

/-- What the body has before it runs at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d)))

/-- and after. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t))

set_option maxHeartbeats 3600000 in
/-- The body turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37]
  unfold outsAt0
  unfold out0_A_32 out0_A_33 out0_A_34 out0_A_35 out0_A_36 out0_A_37; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  iintro ⟨H0, H1, H2, H3, H4, H5, H6, H7, H8, H9, H10, H11, H12, H13, H14, H15, H16, H17, H18, H19, H20, H21, H22, H23, H24, H25, H26, H27, H28, H29, H30, H31, ⟨%e32, H32⟩, ⟨%e33, H33⟩, ⟨%e34, H34⟩, ⟨%e35, H35⟩, ⟨%e36, H36⟩, ⟨%e37, H37⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]
  · unfold owns; iexists _; isplitr
    swap; · iexact H32
    ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H35]
  · unfold owns; iexists _; isplitr
    swap; · iexact H35
    ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H36]
  · unfold owns; iexists _; isplitr
    swap; · iexact H36
    ipureintro; exact View.read_writes_of_cover _ _ _ _ _ (cover0_A_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H37
  ipureintro; exact View.read_writes_of_cover _ _ _ _ _ (cover0_A_37 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body as the pipeline calls it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 4000000 in
/-- The program runs without a fault; it leaves each array at what the points wrote, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel3Ideal.Gen

end
-- ==== Proof.Prj.Block.lean ====
/-
  What the body of the input projection leaves in the blocks of the values and of the gate, over the extended reals.
-/
module

public import proofs.«01_k».proof.Proof.Prj.Pieces
public import proofs.«01_k».proof.Proof.Prj.Frame

@[expose] public section

set_option maxRecDepth 16384

noncomputable section

namespace Cert.Kernel3Ideal.Prj

open Cert.Kernel3Ideal Cert.Kernel3Ideal.Gen
open Idealize.ShloMosaic Idealize.ShloMosaic.TcCoe

/-- Every store into the gate's block holds the gate's entries of its rows, -/
theorem gate_list (B : Blocks Ideal) : ∀ p ∈ [gateP B 2 512 (by decide), gateP B 1 256 (by decide), gateP B 0 0 (by decide)],
    ∀ x : p.1.shape.Idx, p.2 x = (fun y : S1x768x1024.Idx => gateR B (y 1) (y 2)) (p.1.emb x) :=
  List.forall_mem_cons.mpr ⟨gateP_at B 2 (by decide) 512 _ rfl, List.forall_mem_cons.mpr ⟨gateP_at B 1 (by decide) 256 _ rfl,
    List.forall_mem_cons.mpr ⟨gateP_at B 0 (by decide) 0 _ rfl, List.forall_mem_nil _⟩⟩⟩

/-- and every store into the values' block the values of its channels and rows. -/
theorem value_list (B : Blocks Ideal) : ∀ p ∈ [latP B 2 512 (by decide), latP B 1 256 (by decide), latP B 0 0 (by decide), grp1P B 2 704 512 (by decide) (by decide), grp1P B 2 640 512 (by decide) (by decide), grp1P B 2 576 512 (by decide) (by decide), grp0P B 2 512 512 (by decide) (by decide), grp0P B 2 448 512 (by decide) (by decide), grp0P B 2 384 512 (by decide) (by decide), grp1P B 1 704 256 (by decide) (by decide), grp1P B 1 640 256 (by decide) (by decide), grp1P B 1 576 256 (by decide) (by decide), grp0P B 1 512 256 (by decide) (by decide), grp0P B 1 448 256 (by decide) (by decide), grp0P B 1 384 256 (by decide) (by decide), grp1P B 0 704 0 (by decide) (by decide), grp1P B 0 640 0 (by decide) (by decide), grp1P B 0 576 0 (by decide) (by decide), grp0P B 0 512 0 (by decide) (by decide), grp0P B 0 448 0 (by decide) (by decide), grp0P B 0 384 0 (by decide) (by decide)],
    ∀ x : p.1.shape.Idx, p.2 x = (fun y : S1x768x768.Idx => valR B (y 1) (y 2)) (p.1.emb x) :=
  List.forall_mem_cons.mpr ⟨latP_at B 2 (by decide) 512 _ rfl, List.forall_mem_cons.mpr ⟨latP_at B 1 (by decide) 256 _ rfl, List.forall_mem_cons.mpr ⟨latP_at B 0 (by decide) 0 _ rfl, List.forall_mem_cons.mpr ⟨grp1P_at B 2 (by decide) 704 512 _ _ rfl 2 (by decide) rfl, List.forall_mem_cons.mpr ⟨grp1P_at B 2 (by decide) 640 512 _ _ rfl 1 (by decide) rfl, List.forall_mem_cons.mpr ⟨grp1P_at B 2 (by decide) 576 512 _ _ rfl 0 (by decide) rfl, List.forall_mem_cons.mpr ⟨grp0P_at B 2 (by decide) 512 512 _ _ rfl 2 (by decide) rfl, List.forall_mem_cons.mpr ⟨grp0P_at B 2 (by decide) 448 512 _ _ rfl 1 (by decide) rfl, List.forall_mem_cons.mpr ⟨grp0P_at B 2 (by decide) 384 512 _ _ rfl 0 (by decide) rfl, List.forall_mem_cons.mpr ⟨grp1P_at B 1 (by decide) 704 256 _ _ rfl 2 (by decide) rfl, List.forall_mem_cons.mpr ⟨grp1P_at B 1 (by decide) 640 256 _ _ rfl 1 (by decide) rfl, List.forall_mem_cons.mpr ⟨grp1P_at B 1 (by decide) 576 256 _ _ rfl 0 (by decide) rfl, List.forall_mem_cons.mpr ⟨grp0P_at B 1 (by decide) 512 256 _ _ rfl 2 (by decide) rfl, List.forall_mem_cons.mpr ⟨grp0P_at B 1 (by decide) 448 256 _ _ rfl 1 (by decide) rfl, List.forall_mem_cons.mpr ⟨grp0P_at B 1 (by decide) 384 256 _ _ rfl 0 (by decide) rfl, List.forall_mem_cons.mpr ⟨grp1P_at B 0 (by decide) 704 0 _ _ rfl 2 (by decide) rfl, List.forall_mem_cons.mpr ⟨grp1P_at B 0 (by decide) 640 0 _ _ rfl 1 (by decide) rfl, List.forall_mem_cons.mpr ⟨grp1P_at B 0 (by decide) 576 0 _ _ rfl 0 (by decide) rfl, List.forall_mem_cons.mpr ⟨grp0P_at B 0 (by decide) 512 0 _ _ rfl 2 (by decide) rfl, List.forall_mem_cons.mpr ⟨grp0P_at B 0 (by decide) 448 0 _ _ rfl 1 (by decide) rfl, List.forall_mem_cons.mpr ⟨grp0P_at B 0 (by decide) 384 0 _ _ rfl 0 (by decide) rfl, List.forall_mem_nil _⟩⟩⟩⟩⟩⟩⟩⟩⟩⟩⟩⟩⟩⟩⟩⟩⟩⟩⟩⟩⟩

/-- So the gate's block is the gate, -/
theorem gate_block (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec Ideal S1x256x1024 .f32) (x1 : Vec Ideal S1x256x1024 .f32) (x2 : Vec Ideal S1x256x1024 .f32) (x3 : Vec Ideal S1x8x1024 .f32) (x4 : Vec Ideal S1x8x1024 .f32) (x5 : Vec Ideal S1x8x1024 .f32) (x6 : Vec Ideal S1x8x1024 .f32) (x7 : Vec Ideal S1x8x1024 .f32) (x8 : Vec Ideal S1x8x1024 .f32) (x9 : Vec Ideal S1x256x1024 .f32) (x10 : Vec Ideal S1x1x1024 .f32) (x11 : Vec Ideal S1x1x1024 .f32) (x12 : Vec Ideal S1x1024 .f32) (x13 : Vec Ideal S1x1024 .f32) (x14 : Vec Ideal S1x1024 .f32) (x15 : Vec Ideal S1024x3328 .bf16) (x16 : Vec Ideal S1x384 .f32) (x17 : Vec Ideal S384x768 .bf16) (x18 : Vec Ideal S1x256 .f32) (x19 : Vec Ideal S256x768 .bf16) (x20 : Vec Ideal S384x256 .bf16) (x21 : Vec Ideal S128x1024 .bf16) (x22 : Vec Ideal S1x384 .f32) (x23 : Vec Ideal S1x256 .f32) (x24 : Vec Ideal S8x768 .f32) (x25 : Vec Ideal S1x128 .f32) (x26 : Vec Ideal S1x128 .f32) (x27 : Vec Ideal S768x128 .f32) (x28 : Vec Ideal S768x128 .f32) (x29 : Vec Ideal S768x128 .f32) (x30 : Vec Ideal S768x128 .f32) (x31 : Vec Ideal S384x384 .bf16) (y : S1x768x1024.Idx) :
    out0_A_37 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 y = gateR (blocks i x0 x1 x2 x3 x4 x5 x6 x7 x8 x9 x10 x11 x12 x13 x14 x15 x18 x20 x21) (y 1) (y 2) := by
  unfold out0_A_37
  refine View.read_writes_apply_of_pieces _ _ (fun y : S1x768x1024.Idx => gateR (blocks i x0 x1 x2 x3 x4 x5 x6 x7 x8 x9 x10 x11 x12 x13 x14 x15 x18 x20 x21) (y 1) (y 2)) _ ?_ y (cover0_A_37 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 y)
  rw [gate_pieces]
  exact gate_list _

/-- and the values' block the values. -/
theorem value_block (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x256x1024 .f32) (harg11 : arg11.IsWhole) (arg12 : Memref sig .tc .vmem S1x1x1024 .f32) (harg12 : arg12.IsWhole) (arg13 : Memref sig .tc .vmem S1x1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x3328 .bf16) (harg17 : arg17.IsWhole) (arg18 : Memref sig .tc .vmem S1x384 .f32) (harg18 : arg18.IsWhole) (arg19 : Memref sig .tc .vmem S384x768 .bf16) (harg19 : arg19.IsWhole) (arg20 : Memref sig .tc .vmem S1x256 .f32) (harg20 : arg20.IsWhole) (arg21 : Memref sig .tc .vmem S256x768 .bf16) (harg21 : arg21.IsWhole) (arg22 : Memref sig .tc .vmem S384x256 .bf16) (harg22 : arg22.IsWhole) (arg23 : Memref sig .tc .vmem S128x1024 .bf16) (harg23 : arg23.IsWhole) (arg24 : Memref sig .tc .vmem S1x384 .f32) (harg24 : arg24.IsWhole) (arg25 : Memref sig .tc .vmem S1x256 .f32) (harg25 : arg25.IsWhole) (arg26 : Memref sig .tc .vmem S8x768 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S768x128 .f32) (harg29 : arg29.IsWhole) (arg30 : Memref sig .tc .vmem S768x128 .f32) (harg30 : arg30.IsWhole) (arg31 : Memref sig .tc .vmem S768x128 .f32) (harg31 : arg31.IsWhole) (arg32 : Memref sig .tc .vmem S768x128 .f32) (harg32 : arg32.IsWhole) (arg33 : Memref sig .tc .vmem S384x384 .bf16) (harg33 : arg33.IsWhole) (arg34 : Memref sig .tc .vmem S1x12x768x128 .bf16) (harg34 : arg34.IsWhole) (arg35 : Memref sig .tc .vmem S1x12x768x128 .bf16) (harg35 : arg35.IsWhole) (arg36 : Memref sig .tc .vmem S1x768x768 .bf16) (harg36 : arg36.IsWhole) (arg37 : Memref sig .tc .vmem S1x768x768 .f32) (harg37 : arg37.IsWhole) (arg38 : Memref sig .tc .vmem S1x768x128 .f32) (harg38 : arg38.IsWhole) (arg39 : Memref sig .tc .vmem S1x768x1024 .bf16) (harg39 : arg39.IsWhole)
    (x0 : Vec Ideal S1x256x1024 .f32) (x1 : Vec Ideal S1x256x1024 .f32) (x2 : Vec Ideal S1x256x1024 .f32) (x3 : Vec Ideal S1x8x1024 .f32) (x4 : Vec Ideal S1x8x1024 .f32) (x5 : Vec Ideal S1x8x1024 .f32) (x6 : Vec Ideal S1x8x1024 .f32) (x7 : Vec Ideal S1x8x1024 .f32) (x8 : Vec Ideal S1x8x1024 .f32) (x9 : Vec Ideal S1x256x1024 .f32) (x10 : Vec Ideal S1x1x1024 .f32) (x11 : Vec Ideal S1x1x1024 .f32) (x12 : Vec Ideal S1x1024 .f32) (x13 : Vec Ideal S1x1024 .f32) (x14 : Vec Ideal S1x1024 .f32) (x15 : Vec Ideal S1024x3328 .bf16) (x16 : Vec Ideal S1x384 .f32) (x17 : Vec Ideal S384x768 .bf16) (x18 : Vec Ideal S1x256 .f32) (x19 : Vec Ideal S256x768 .bf16) (x20 : Vec Ideal S384x256 .bf16) (x21 : Vec Ideal S128x1024 .bf16) (x22 : Vec Ideal S1x384 .f32) (x23 : Vec Ideal S1x256 .f32) (x24 : Vec Ideal S8x768 .f32) (x25 : Vec Ideal S1x128 .f32) (x26 : Vec Ideal S1x128 .f32) (x27 : Vec Ideal S768x128 .f32) (x28 : Vec Ideal S768x128 .f32) (x29 : Vec Ideal S768x128 .f32) (x30 : Vec Ideal S768x128 .f32) (x31 : Vec Ideal S384x384 .bf16) (y : S1x768x768.Idx) :
    out0_A_34 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 y = valR (blocks i x0 x1 x2 x3 x4 x5 x6 x7 x8 x9 x10 x11 x12 x13 x14 x15 x18 x20 x21) (y 1) (y 2) := by
  unfold out0_A_34
  refine View.read_writes_apply_of_pieces _ _ (fun y : S1x768x768.Idx => valR (blocks i x0 x1 x2 x3 x4 x5 x6 x7 x8 x9 x10 x11 x12 x13 x14 x15 x18 x20 x21) (y 1) (y 2)) _ ?_ y (cover0_A_34 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 y)
  rw [value_pieces]
  exact value_list _

end Cert.Kernel3Ideal.Prj
-- ==== Proof.Prj.Result.lean ====
/-
  The two result arrays as functions of the arguments, over the extended reals: the values by channel and row, and the gate's silu.
-/
module

public import proofs.«01_k».proof.Proof.Prj.Arrays
public import proofs.«01_k».proof.Proof.Prj.Block
public import Idealize.ShloMosaic.Lib.Pipeline.Value

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem
open Cert.Kernel2Ideal.Mrg (ix2_ext ix3_ext ix4_ext)

variable (m : (ℓ : Loc nD τ sig) → Buf (Elt Ideal) ℓ) (ρ : Dev nD → PrngReg) (c : Dev nD) (t : Fin cfg0.N)

/-- The hidden rows of the arguments in memory, -/
def hidOf : Fin 16 → Fin 2304 → Fin 1024 → EReal := hidAt (argX m c) (argC m c) (argShl m c) (argScl m c) (argShc m c) (argScc m c) (argNg m c)

/-- their values, -/
def valuesOf : FVec Ideal S16x768x2304 .bf16 := valueOf (hidOf m c) (argW m c) (argKg m c) (argU m c)

/-- and their gate. -/
def silusOf : FVec Ideal S16x2304x1024 .bf16 := gateOf (hidOf m c) (argW m c)

/-- What point `t` writes back of the values is its block of them, -/
theorem flushed_values : (dats m 0 c).flushed 34 t = ((cfg0.win 34).blk t).view.read (Elt Ideal) (valuesOf m c) := by
  obtain ⟨h0, h1, h2⟩ := index_v t
  show (cfg0.win 34).cut (grid0.coords t) ((dats m 0 c).after 34 t) = _
  rw [after0_34]
  simp only [outsAt0]
  funext y
  obtain ⟨y0, y1, y2, rfl⟩ : ∃ y0 y1 y2, y = (ix3 y0 y1 y2 : S1x768x768.Idx) := ⟨_, _, _, eq_ix3 y⟩
  obtain rfl : y0 = 0 := Subsingleton.elim _ _
  refine ((value_block c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix3 0 y1 y2)).trans ((reads m c t).valRow y1 y2)).trans ?_
  rw [View.read_apply]
  refine congrArg (valuesOf m c) (ix3_ext ?_ ?_ ?_)
  · show t.val / 3 = win0_34.index t 0 * 1 + 1 * 0; omega
  · show y1.val = win0_34.index t 1 * 768 + 1 * y1.val; omega
  · show 768 * (tri t).val + y2.val = win0_34.index t 2 * 768 + 1 * y2.val; have ht : (tri t).val = t.val % 3 := rfl; omega

/-- and of the gate its block of it. -/
theorem flushed_silus : (dats m 0 c).flushed 37 t = ((cfg0.win 37).blk t).view.read (Elt Ideal) (silusOf m c) := by
  obtain ⟨h0, h1, h2⟩ := index_sg t
  show (cfg0.win 37).cut (grid0.coords t) ((dats m 0 c).after 37 t) = _
  rw [after0_37]
  simp only [outsAt0]
  funext y
  obtain ⟨y0, y1, y2, rfl⟩ : ∃ y0 y1 y2, y = (ix3 y0 y1 y2 : S1x768x1024.Idx) := ⟨_, _, _, eq_ix3 y⟩
  obtain rfl : y0 = 0 := Subsingleton.elim _ _
  refine ((gate_block c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix3 0 y1 y2)).trans ((reads m c t).gateRow y1 y2)).trans ?_
  rw [View.read_apply]
  refine congrArg (silusOf m c) (ix3_ext ?_ ?_ ?_)
  · show t.val / 3 = win0_37.index t 0 * 1 + 1 * 0; omega
  · show 768 * (tri t).val + y1.val = win0_37.index t 1 * 768 + 1 * y1.val; have ht : (tri t).val = t.val % 3 := rfl; omega
  · show y2.val = win0_37.index t 2 * 1024 + 1 * y2.val; omega

/-- The points' blocks fill the values' array, -/
theorem final_values : (dats m 0 c).arrAt 34 cfg0.N = valuesOf m c :=
  (dats m 0 c).arrAt_eq_of_cover 34 (valuesOf m c) (fun t _ => flushed_values m c t) fun i => by
    have g0 : (i 0 : Nat) < 16 := (i 0).isLt
    have g1 : (i 1 : Nat) < 768 := (i 1).isLt
    have g2 : (i 2 : Nat) < 2304 := (i 2).isLt
    have hN : 3 * (i 0 : Nat) + (i 2 : Nat) / 768 < cfg0.N := by rw [show cfg0.N = 48 from N_0]; omega
    set t : Fin cfg0.N := ⟨3 * (i 0 : Nat) + (i 2 : Nat) / 768, hN⟩ with ht
    have tv : t.val = 3 * (i 0 : Nat) + (i 2 : Nat) / 768 := rfl
    obtain ⟨h0, h1, h2⟩ := index_v t
    obtain ⟨s0, s1, s2⟩ := size_v t
    refine ⟨t, flush0_34 t, ?_⟩
    show i ∈ ((View.whole main_v106_2).slice (win0_34.rect t)).set
    rw [View.set_slice_whole, Rect.mem_set_unit]
    intro a
    match a with
    | ⟨0, _⟩ => show win0_34.index t 0 * 1 ≤ (i 0 : Nat) ∧ (i 0 : Nat) < win0_34.index t 0 * 1 + win0_34.xsize (grid0.coords t) 0
                rw [h0, s0, tv]; omega
    | ⟨1, _⟩ => show win0_34.index t 1 * 768 ≤ (i 1 : Nat) ∧ (i 1 : Nat) < win0_34.index t 1 * 768 + win0_34.xsize (grid0.coords t) 1
                rw [h1, s1]; omega
    | ⟨2, _⟩ => show win0_34.index t 2 * 768 ≤ (i 2 : Nat) ∧ (i 2 : Nat) < win0_34.index t 2 * 768 + win0_34.xsize (grid0.coords t) 2
                rw [h2, s2, tv]; omega

/-- and the gate's. -/
theorem final_silus : (dats m 0 c).arrAt 37 cfg0.N = silusOf m c :=
  (dats m 0 c).arrAt_eq_of_cover 37 (silusOf m c) (fun t _ => flushed_silus m c t) fun i => by
    have g0 : (i 0 : Nat) < 16 := (i 0).isLt
    have g1 : (i 1 : Nat) < 2304 := (i 1).isLt
    have g2 : (i 2 : Nat) < 1024 := (i 2).isLt
    have hN : 3 * (i 0 : Nat) + (i 1 : Nat) / 768 < cfg0.N := by rw [show cfg0.N = 48 from N_0]; omega
    set t : Fin cfg0.N := ⟨3 * (i 0 : Nat) + (i 1 : Nat) / 768, hN⟩ with ht
    have tv : t.val = 3 * (i 0 : Nat) + (i 1 : Nat) / 768 := rfl
    obtain ⟨h0, h1, h2⟩ := index_sg t
    obtain ⟨s0, s1, s2⟩ := size_sg t
    refine ⟨t, flush0_37 t, ?_⟩
    show i ∈ ((View.whole main_v106_5).slice (win0_37.rect t)).set
    rw [View.set_slice_whole, Rect.mem_set_unit]
    intro a
    match a with
    | ⟨0, _⟩ => show win0_37.index t 0 * 1 ≤ (i 0 : Nat) ∧ (i 0 : Nat) < win0_37.index t 0 * 1 + win0_37.xsize (grid0.coords t) 0
                rw [h0, s0, tv]; omega
    | ⟨1, _⟩ => show win0_37.index t 1 * 768 ≤ (i 1 : Nat) ∧ (i 1 : Nat) < win0_37.index t 1 * 768 + win0_37.xsize (grid0.coords t) 1
                rw [h1, s1, tv]; omega
    | ⟨2, _⟩ => show win0_37.index t 2 * 1024 ≤ (i 2 : Nat) ∧ (i 2 : Nat) < win0_37.index t 2 * 1024 + win0_37.xsize (grid0.coords t) 2
                rw [h2, s2]; omega

/-- Every execution leaves the arguments unchanged and the two result arrays at the values and the gate. -/
theorem run : θ_run defs (onTc (τ := τ) (main (F := Ideal))) ⟨m, fun _ => 0, ρ⟩ fun r => ∀ c : Dev nD,
      r.2.mem ((c.tc : Thread nD τ).loc main_v106_2) = valuesOf m c
      ∧ r.2.mem ((c.tc : Thread nD τ).loc main_v106_5) = silusOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun r h c => ⟨((h c).1 34).trans (final_values m c), ((h c).1 37).trans (final_silus m c),
      ((h c).1 8).trans (((dats m 0 c).arrAt_in 8 rfl _).trans ((A_eq m c 8).trans (V_main_arg0 m c))),
      ((h c).1 9).trans (((dats m 0 c).arrAt_in 9 rfl _).trans ((A_eq m c 9).trans (V_main_arg1 m c))),
      ((h c).1 10).trans (((dats m 0 c).arrAt_in 10 rfl _).trans ((A_eq m c 10).trans (V_main_arg2 m c))),
      ((h c).1 11).trans (((dats m 0 c).arrAt_in 11 rfl _).trans ((A_eq m c 11).trans (V_main_arg3 m c))),
      ((h c).1 12).trans (((dats m 0 c).arrAt_in 12 rfl _).trans ((A_eq m c 12).trans (V_main_arg4 m c))),
      ((h c).1 13).trans (((dats m 0 c).arrAt_in 13 rfl _).trans ((A_eq m c 13).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩)
    (run_main m ρ)

end Cert.Kernel3Ideal.Prj
-- ==== Proof.Prj.Value.lean ====
/-
  The value claim of the input projection: the kernel and the reference leave the same two result arrays.
-/
module

public import proofs.«01_k».proof.Proof.Prj.Reference
public import proofs.«01_k».proof.Proof.Prj.Result
public import proofs.«01_k».proof.Defs

@[expose] public section

set_option maxRecDepth 16384

noncomputable section

namespace Cert.Reference3Ideal.Prj

open Idealize.ShloMosaic Idealize.ShloMosaic.TcCoe
open Cert.Reference3Ideal
open Cert.Kernel3Ideal.Prj (valuesOf silusOf)

/-- The reference runs without a fault, its arguments unchanged and every counter at zero. -/
theorem quiescent : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩) (Cert.Reference3Ideal.Value.run (F := Ideal) m g)

/-- The kernel's result arrays are the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => valuesOf m c, fun c => silusOf m c, ?_, ?_⟩
  · exact Cert.Kernel3Ideal.Prj.run m g
  · refine (θ_run Cert.Reference3Ideal.defs _ _).mono (fun r h c => ⟨((h c).1).trans ?_, ((h c).2.1).trans ?_, (h c).2.2⟩) (Cert.Reference3Ideal.Value.run (F := Ideal) m' g')
    · obtain ⟨e0, e1, e2, e3, e4, e5, e6, e7, _, _, e10, e11, _⟩ := hargs c
      refine (res_eq m' c).1.trans ?_
      rw [e0, e1, e2, e3, e4, e5, e6, e7, e10, e11]
      exact refV_eq _ _ _ _ _ _ _ _ _ _
    · obtain ⟨e0, e1, e2, e3, e4, e5, e6, e7, _⟩ := hargs c
      refine (res_eq m' c).2.trans ?_
      rw [e0, e1, e2, e3, e4, e5, e6, e7]
      exact refG_eq _ _ _ _ _ _ _ _

end Cert.Reference3Ideal.Prj
-- ==== Proof.lean ====
/-
  The certificate: the frames of the three calls (on bits and over the extended reals) and of their references, and the value claims.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame.Runs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Att.Value
public import proofs.«01_k».proof.Proof.Mrg.Value
public import proofs.«01_k».proof.Proof.PrjWords.Frame
public import proofs.«01_k».proof.Proof.Prj.Value

@[expose] public section

namespace Cert.Proof

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores.Att.facts,
    Cert.Kernel.Att.quiescent, Cert.KernelIdeal.Att.quiescent, Cert.KernelIdeal.Att.quiescent_pre _,
    Cert.ReferenceIdeal.Att.quiescent, Cert.ReferenceIdeal.Att.quiescent_pre,
    fun m g _ => Cert.Kernel2.Gen.frame m g, fun m g _ => Cert.Kernel2Ideal.Gen.frame m g, Cert.Reference2Ideal.Mrg.quiescent,
    fun m g _ => Cert.Kernel3.Gen.frame m g, fun m g _ => Cert.Kernel3Ideal.Gen.frame m g, Cert.Reference3Ideal.Prj.quiescent,
    trivial, Cert.ReferenceIdeal.Att.algebraic, trivial, Cert.Reference2Ideal.Mrg.algebraic, trivial, Cert.Reference3Ideal.Prj.algebraic⟩

end Cert.Proof
